-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v64_0)) (v1 : (c : Dev Cert.KernelIdeal.nD) → Buf (Elt Ideal) ((c.tc : Thread Cert.KernelIdeal.nD Cert.KernelIdeal.τ).loc Cert.KernelIdeal.main_v64_1)) (v2 : (c : Dev Cert.KernelIdeal.nD) → Buf (Elt Ideal) ((c.tc : Thread Cert.KernelIdeal.nD Cert.KernelIdeal.τ).loc Cert.KernelIdeal.main_v64_2)) (v3 : (c : Dev Cert.KernelIdeal.nD) → Buf (Elt Ideal) ((c.tc : Thread Cert.KernelIdeal.nD Cert.KernelIdeal.τ).loc Cert.KernelIdeal.main_v64_3)) (v4 : (c : Dev Cert.KernelIdeal.nD) → Buf (Elt Ideal) ((c.tc : Thread Cert.KernelIdeal.nD Cert.KernelIdeal.τ).loc Cert.KernelIdeal.main_v64_4)) (v5 : (c : Dev Cert.KernelIdeal.nD) → Buf (Elt Ideal) ((c.tc : Thread Cert.KernelIdeal.nD Cert.KernelIdeal.τ).loc Cert.KernelIdeal.main_v64_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64_0) = v0 c
          ∧ r.2.mem ((c.tc : Thread Cert.KernelIdeal.nD Cert.KernelIdeal.τ).loc Cert.KernelIdeal.main_v64_1) = v1 c
          ∧ r.2.mem ((c.tc : Thread Cert.KernelIdeal.nD Cert.KernelIdeal.τ).loc Cert.KernelIdeal.main_v64_2) = v2 c
          ∧ r.2.mem ((c.tc : Thread Cert.KernelIdeal.nD Cert.KernelIdeal.τ).loc Cert.KernelIdeal.main_v64_3) = v3 c
          ∧ r.2.mem ((c.tc : Thread Cert.KernelIdeal.nD Cert.KernelIdeal.τ).loc Cert.KernelIdeal.main_v64_4) = v4 c
          ∧ r.2.mem ((c.tc : Thread Cert.KernelIdeal.nD Cert.KernelIdeal.τ).loc Cert.KernelIdeal.main_v64_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_v101) = v2 c
          ∧ r.2.mem ((c.tc : Thread Cert.ReferenceIdeal.nD Cert.ReferenceIdeal.τ).loc Cert.ReferenceIdeal.main_v103) = v3 c
          ∧ r.2.mem ((c.tc : Thread Cert.ReferenceIdeal.nD Cert.ReferenceIdeal.τ).loc Cert.ReferenceIdeal.main_v104) = v4 c
          ∧ r.2.mem ((c.tc : Thread Cert.ReferenceIdeal.nD Cert.ReferenceIdeal.τ).loc Cert.ReferenceIdeal.main_v106) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v50) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  IdealRules.named_const.Statement Cert.Kernel3Ideal.κ "mask" .f32 0xF149F2CA#32 ⊥

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
-- ==== Kernel.lean ====
abbrev S8x2048x1024 : Shape := ⟨3, ![8, 2048, 1024]⟩
abbrev S1x1024 : Shape := ⟨2, ![1, 1024]⟩
abbrev S1x1024x3072 : Shape := ⟨3, ![1, 1024, 3072]⟩
abbrev S128 : Shape := ⟨1, ![128]⟩
abbrev S_ : Shape := ⟨0, ![]⟩
abbrev S32 : Shape := ⟨1, ![32]⟩
abbrev S32x1x1 : Shape := ⟨3, ![32, 1, 1]⟩
abbrev S1x1x128 : Shape := ⟨3, ![1, 1, 128]⟩
abbrev S32x1x128 : Shape := ⟨3, ![32, 1, 128]⟩
abbrev S64 : Shape := ⟨1, ![64]⟩
abbrev S1x64x1 : Shape := ⟨3, ![1, 64, 1]⟩
abbrev S1x64x128 : Shape := ⟨3, ![1, 64, 128]⟩
abbrev S32x64x128 : Shape := ⟨3, ![32, 64, 128]⟩
abbrev S2048x128 : Shape := ⟨2, ![2048, 128]⟩
abbrev S16384x1024 : Shape := ⟨2, ![16384, 1024]⟩
abbrev S1024 : Shape := ⟨1, ![1024]⟩
abbrev S1024x3072 : Shape := ⟨2, ![1024, 3072]⟩
abbrev S16384x512 : Shape := ⟨2, ![16384, 512]⟩
abbrev S1024x1024 : Shape := ⟨2, ![1024, 1024]⟩
abbrev S1024x128 : Shape := ⟨2, ![1024, 128]⟩
abbrev S1024x512 : Shape := ⟨2, ![1024, 512]⟩
abbrev S1024x1 : Shape := ⟨2, ![1024, 1]⟩

abbrev nBuf : Space → Nat
  | .hbm => 125
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x3072, .f32⟩
  | .hbm, ⟨3, _⟩ => ⟨S128, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S_, .i32⟩
  | .hbm, ⟨13, _⟩ => ⟨S128, .i32⟩
  | .hbm, ⟨14, _⟩ => ⟨S128, .i1⟩
  | .hbm, ⟨15, _⟩ => ⟨S_, .i32⟩
  | .hbm, ⟨16, _⟩ => ⟨S128, .i32⟩
  | .hbm, ⟨17, _⟩ => ⟨S128, .i1⟩
  | .hbm, ⟨18, _⟩ => ⟨S_, .i32⟩
  | .hbm, ⟨19, _⟩ => ⟨S_, .i1⟩
  | .hbm, ⟨20, _⟩ => ⟨S128, .i1⟩
  | .hbm, ⟨21, _⟩ => ⟨S128, .i1⟩
  | .hbm, ⟨22, _⟩ => ⟨S128, .i1⟩
  | .hbm, ⟨23, _⟩ => ⟨S128, .i32⟩
  | .hbm, ⟨24, _⟩ => ⟨S128, .i32⟩
  | .hbm, ⟨25, _⟩ => ⟨S128, .i32⟩
  | .hbm, ⟨26, _⟩ => ⟨S128, .f32⟩
  | .hbm, ⟨27, _⟩ => ⟨S_, .f32⟩
  | .hbm, ⟨28, _⟩ => ⟨S128, .f32⟩
  | .hbm, ⟨29, _⟩ => ⟨S128, .f32⟩
  | .hbm, ⟨30, _⟩ => ⟨S_, .f32⟩
  | .hbm, ⟨31, _⟩ => ⟨S128, .f32⟩
  | .hbm, ⟨32, _⟩ => ⟨S128, .f32⟩
  | .hbm, ⟨33, _⟩ => ⟨S_, .f32⟩
  | .hbm, ⟨34, _⟩ => ⟨S128, .f32⟩
  | .hbm, ⟨35, _⟩ => ⟨S128, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S32x1x1, .f32⟩
  | .hbm, ⟨44, _⟩ => ⟨S1x1x128, .f32⟩
  | .hbm, ⟨45, _⟩ => ⟨S32x1x128, .f32⟩
  | .hbm, ⟨46, _⟩ => ⟨S32x1x128, .f32⟩
  | .hbm, ⟨47, _⟩ => ⟨S32x1x128, .f32⟩
  | .hbm, ⟨48, _⟩ => ⟨S64, .f32⟩
  | .hbm, ⟨49, _⟩ => ⟨S1x64x1, .f32⟩
  | .hbm, ⟨50, _⟩ => ⟨S1x1x128, .f32⟩
  | .hbm, ⟨51, _⟩ => ⟨S1x64x128, .f32⟩
  | .hbm, ⟨52, _⟩ => ⟨S1x64x128, .f32⟩
  | .hbm, ⟨53, _⟩ => ⟨S1x64x128, .f32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i1⟩
  | .hbm, ⟨58, _⟩ => ⟨S_, .i32⟩
  | .hbm, ⟨59, _⟩ => ⟨S_, .i32⟩
  | .hbm, ⟨60, _⟩ => ⟨S128, .i32⟩
  | .hbm, ⟨61, _⟩ => ⟨S128, .i32⟩
  | .hbm, ⟨62, _⟩ => ⟨S_, .i32⟩
  | .hbm, ⟨63, _⟩ => ⟨S128, .i32⟩
  | .hbm, ⟨64, _⟩ => ⟨S128, .i1⟩
  | .hbm, ⟨65, _⟩ => ⟨S_, .i32⟩
  | .hbm, ⟨66, _⟩ => ⟨S128, .i32⟩
  | .hbm, ⟨67, _⟩ => ⟨S128, .i1⟩
  | .hbm, ⟨68, _⟩ => ⟨S_, .i32⟩
  | .hbm, ⟨69, _⟩ => ⟨S_, .i1⟩
  | .hbm, ⟨70, _⟩ => ⟨S128, .i1⟩
  | .hbm, ⟨71, _⟩ => ⟨S128, .i1⟩
  | .hbm, ⟨72, _⟩ => ⟨S128, .i1⟩
  | .hbm, ⟨73, _⟩ => ⟨S128, .i32⟩
  | .hbm, ⟨74, _⟩ => ⟨S128, .i32⟩
  | .hbm, ⟨75, _⟩ => ⟨S128, .i32⟩
  | .hbm, ⟨76, _⟩ => ⟨S_, .i32⟩
  | .hbm, ⟨77, _⟩ => ⟨S128, .i32⟩
  | .hbm, ⟨78, _⟩ => ⟨S128, .i1⟩
  | .hbm, ⟨79, _⟩ => ⟨S_, .f32⟩
  | .hbm, ⟨80, _⟩ => ⟨S_, .f32⟩
  | .hbm, ⟨81, _⟩ => ⟨S128, .f32⟩
  | .hbm, ⟨82, _⟩ => ⟨S128, .f32⟩
  | .hbm, ⟨83, _⟩ => ⟨S128, .f32⟩
  | .hbm, ⟨84, _⟩ => ⟨S128, .f32⟩
  | .hbm, ⟨85, _⟩ => ⟨S32x1x128, .f32⟩
  | .hbm, ⟨86, _⟩ => ⟨S1x1x128, .f32⟩
  | .hbm, ⟨87, _⟩ => ⟨S32x1x128, .f32⟩
  | .hbm, ⟨88, _⟩ => ⟨S32x1x128, .f32⟩
  | .hbm, ⟨89, _⟩ => ⟨S1x64x128, .f32⟩
  | .hbm, ⟨90, _⟩ => ⟨S1x1x128, .f32⟩
  | .hbm, ⟨91, _⟩ => ⟨S1x64x128, .f32⟩
  | .hbm, ⟨92, _⟩ => ⟨S1x64x128, .f32⟩
  | .hbm, ⟨93, _⟩ => ⟨S32x1x128, .f32⟩
  | .hbm, ⟨94, _⟩ => ⟨S1x64x128, .f32⟩
  | .hbm, ⟨95, _⟩ => ⟨S32x64x128, .f32⟩
  | .hbm, ⟨96, _⟩ => ⟨S32x64x128, .f32⟩
  | .hbm, ⟨97, _⟩ => ⟨S32x64x128, .f32⟩
  | .hbm, ⟨98, _⟩ => ⟨S32x1x128, .f32⟩
  | .hbm, ⟨99, _⟩ => ⟨S1x64x128, .f32⟩
  | .hbm, ⟨100, _⟩ => ⟨S32x64x128, .f32⟩
  | .hbm, ⟨101, _⟩ => ⟨S32x64x128, .f32⟩
  | .hbm, ⟨102, _⟩ => ⟨S32x64x128, .f32⟩
  | .hbm, ⟨103, _⟩ => ⟨S32x64x128, .f32⟩
  | .hbm, ⟨104, _⟩ => ⟨S2048x128, .f32⟩
  | .hbm, ⟨105, _⟩ => ⟨S1x64x128, .f32⟩
  | .hbm, ⟨106, _⟩ => ⟨S32x64x128, .f32⟩
  | .hbm, ⟨107, _⟩ => ⟨S32x64x128, .f32⟩
  | .hbm, ⟨108, _⟩ => ⟨S32x64x128, .f32⟩
  | .hbm, ⟨109, _⟩ => ⟨S32x1x128, .f32⟩
  | .hbm, ⟨110, _⟩ => ⟨S32x64x128, .f32⟩
  | .hbm, ⟨111, _⟩ => ⟨S32x64x128, .f32⟩
  | .hbm, ⟨112, _⟩ => ⟨S32x64x128, .f32⟩
  | .hbm, ⟨113, _⟩ => ⟨S32x64x128, .f32⟩
  | .hbm, ⟨114, _⟩ => ⟨S2048x128, .f32⟩
  | .hbm, ⟨115, _⟩ => ⟨S16384x1024, .f32⟩
  | .hbm, ⟨116, _⟩ => ⟨S1024, .f32⟩
  | .hbm, ⟨117, _⟩ => ⟨S1x1024, .f32⟩
  | .hbm, ⟨118, _⟩ => ⟨S1024x3072, .f32⟩
  | .hbm, ⟨119, _⟩ => ⟨S16384x512, .bf16⟩
  | .hbm, ⟨120, _⟩ => ⟨S16384x512, .bf16⟩
  | .hbm, ⟨121, _⟩ => ⟨S16384x512, .bf16⟩
  | .hbm, ⟨122, _⟩ => ⟨S16384x512, .bf16⟩
  | .hbm, ⟨123, _⟩ => ⟨S16384x512, .f32⟩
  | .hbm, ⟨124, _⟩ => ⟨S16384x512, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .f32⟩
  | .local _ .vmem, ⟨17, _⟩ => ⟨S1024x512, .f32⟩
  | .local _ .vmem, ⟨18, _⟩ => ⟨S1024x512, .bf16⟩
  | .local _ .vmem, ⟨19, _⟩ => ⟨S1024x512, .bf16⟩
  | .local _ .vmem, ⟨20, _⟩ => ⟨S1024x3072, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_c_2 : Ref sig .tc := ⟨.hbm, 15, rfl⟩
abbrev main_call0_v7 : Ref sig .tc := ⟨.hbm, 16, rfl⟩
abbrev main_call0_v8 : Ref sig .tc := ⟨.hbm, 17, rfl⟩
abbrev main_call0_c_3 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v1 : Ref sig .tc := ⟨.hbm, 25, rfl⟩
abbrev main_v2 : Ref sig .tc := ⟨.hbm, 26, rfl⟩
abbrev main_cst : Ref sig .tc := ⟨.hbm, 27, rfl⟩
abbrev main_v3 : Ref sig .tc := ⟨.hbm, 28, rfl⟩
abbrev main_v4 : Ref sig .tc := ⟨.hbm, 29, rfl⟩
abbrev main_cst_0 : Ref sig .tc := ⟨.hbm, 30, rfl⟩
abbrev main_v5 : Ref sig .tc := ⟨.hbm, 31, rfl⟩
abbrev main_v6 : Ref sig .tc := ⟨.hbm, 32, rfl⟩
abbrev main_cst_1 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_cst_2 : Ref sig .tc := ⟨.hbm, 37, rfl⟩
abbrev main_v10 : Ref sig .tc := ⟨.hbm, 38, rfl⟩
abbrev main_v11 : Ref sig .tc := ⟨.hbm, 39, rfl⟩
abbrev main_cst_3 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_c_4 : Ref sig .tc := ⟨.hbm, 54, rfl⟩
abbrev main_call1_v0 : Ref sig .tc := ⟨.hbm, 55, rfl⟩
abbrev main_call1_c : Ref sig .tc := ⟨.hbm, 56, rfl⟩
abbrev main_call1_v1 : Ref sig .tc := ⟨.hbm, 57, rfl⟩
abbrev main_call1_c_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_c_1 : Ref sig .tc := ⟨.hbm, 62, rfl⟩
abbrev main_call1_v5 : Ref sig .tc := ⟨.hbm, 63, rfl⟩
abbrev main_call1_v6 : Ref sig .tc := ⟨.hbm, 64, rfl⟩
abbrev main_call1_c_2 : Ref sig .tc := ⟨.hbm, 65, rfl⟩
abbrev main_call1_v7 : Ref sig .tc := ⟨.hbm, 66, rfl⟩
abbrev main_call1_v8 : Ref sig .tc := ⟨.hbm, 67, rfl⟩
abbrev main_call1_c_3 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_v12 : Ref sig .tc := ⟨.hbm, 72, rfl⟩
abbrev main_call1_v13 : Ref sig .tc := ⟨.hbm, 73, rfl⟩
abbrev main_call1_v14 : Ref sig .tc := ⟨.hbm, 74, rfl⟩
abbrev main_v25 : Ref sig .tc := ⟨.hbm, 75, rfl⟩
abbrev main_c_5 : Ref sig .tc := ⟨.hbm, 76, rfl⟩
abbrev main_v26 : Ref sig .tc := ⟨.hbm, 77, rfl⟩
abbrev main_v27 : Ref sig .tc := ⟨.hbm, 78, rfl⟩
abbrev main_cst_6 : Ref sig .tc := ⟨.hbm, 79, rfl⟩
abbrev main_cst_7 : Ref sig .tc := ⟨.hbm, 80, rfl⟩
abbrev main_call2_v0 : Ref sig .tc := ⟨.hbm, 81, rfl⟩
abbrev main_call2_v1 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64_0 : Ref sig .tc := ⟨.hbm, 119, rfl⟩
abbrev main_v64_1 : Ref sig .tc := ⟨.hbm, 120, rfl⟩
abbrev main_v64_2 : Ref sig .tc := ⟨.hbm, 121, rfl⟩
abbrev main_v64_3 : Ref sig .tc := ⟨.hbm, 122, rfl⟩
abbrev main_v64_4 : Ref sig .tc := ⟨.hbm, 123, rfl⟩
abbrev main_v64_5 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S8x2048x1024 : Shape := ⟨3, ![8, 2048, 1024]⟩
abbrev S1x1024 : Shape := ⟨2, ![1, 1024]⟩
abbrev S1x1024x3072 : Shape := ⟨3, ![1, 1024, 3072]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x3072 : Shape := ⟨2, ![1024, 3072]⟩
abbrev S8x2048x3072 : Shape := ⟨3, ![8, 2048, 3072]⟩
abbrev S8x2048x512 : Shape := ⟨3, ![8, 2048, 512]⟩
abbrev S8x2048x8x64 : Shape := ⟨4, ![8, 2048, 8, 64]⟩
abbrev S8x8x2048x64 : Shape := ⟨4, ![8, 8, 2048, 64]⟩
abbrev S32 : Shape := ⟨1, ![32]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S8x8x2048x32 : Shape := ⟨4, ![8, 8, 2048, 32]⟩
abbrev S1x1x2048x32 : Shape := ⟨4, ![1, 1, 2048, 32]⟩
abbrev S16384x512 : Shape := ⟨2, ![16384, 512]⟩

abbrev nBuf : Space → Nat
  | .hbm => 120
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x3072, .f32⟩
  | .hbm, ⟨3, _⟩ => ⟨S1024, .f32⟩
  | .hbm, ⟨4, _⟩ => ⟨S8x2048x1024, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x1024, .f32⟩
  | .hbm, ⟨16, _⟩ => ⟨S8x2048x1024, .f32⟩
  | .hbm, ⟨17, _⟩ => ⟨S1x1x1024, .f32⟩
  | .hbm, ⟨18, _⟩ => ⟨S8x2048x1024, .f32⟩
  | .hbm, ⟨19, _⟩ => ⟨S8x2048x1024, .f32⟩
  | .hbm, ⟨20, _⟩ => ⟨S1024x3072, .f32⟩
  | .hbm, ⟨21, _⟩ => ⟨S8x2048x3072, .f32⟩
  | .hbm, ⟨22, _⟩ => ⟨S8x2048x512, .f32⟩
  | .hbm, ⟨23, _⟩ => ⟨S8x2048x512, .f32⟩
  | .hbm, ⟨24, _⟩ => ⟨S8x2048x512, .f32⟩
  | .hbm, ⟨25, _⟩ => ⟨S8x2048x512, .f32⟩
  | .hbm, ⟨26, _⟩ => ⟨S8x2048x512, .f32⟩
  | .hbm, ⟨27, _⟩ => ⟨S8x2048x512, .f32⟩
  | .hbm, ⟨28, _⟩ => ⟨S8x2048x8x64, .f32⟩
  | .hbm, ⟨29, _⟩ => ⟨S8x8x2048x64, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S2048, .f32⟩
  | .hbm, ⟨41, _⟩ => ⟨S2048x1, .f32⟩
  | .hbm, ⟨42, _⟩ => ⟨S1x32, .f32⟩
  | .hbm, ⟨43, _⟩ => ⟨S2048x32, .f32⟩
  | .hbm, ⟨44, _⟩ => ⟨S2048x32, .f32⟩
  | .hbm, ⟨45, _⟩ => ⟨S2048x32, .f32⟩
  | .hbm, ⟨46, _⟩ => ⟨S2048x32, .f32⟩
  | .hbm, ⟨47, _⟩ => ⟨S2048x32, .f32⟩
  | .hbm, ⟨48, _⟩ => ⟨S8x8x2048x32, .f32⟩
  | .hbm, ⟨49, _⟩ => ⟨S8x8x2048x32, .f32⟩
  | .hbm, ⟨50, _⟩ => ⟨S1x1x2048x32, .f32⟩
  | .hbm, ⟨51, _⟩ => ⟨S8x8x2048x32, .f32⟩
  | .hbm, ⟨52, _⟩ => ⟨S8x8x2048x32, .f32⟩
  | .hbm, ⟨53, _⟩ => ⟨S1x1x2048x32, .f32⟩
  | .hbm, ⟨54, _⟩ => ⟨S8x8x2048x32, .f32⟩
  | .hbm, ⟨55, _⟩ => ⟨S8x8x2048x32, .f32⟩
  | .hbm, ⟨56, _⟩ => ⟨S8x8x2048x32, .f32⟩
  | .hbm, ⟨57, _⟩ => ⟨S1x1x2048x32, .f32⟩
  | .hbm, ⟨58, _⟩ => ⟨S8x8x2048x32, .f32⟩
  | .hbm, ⟨59, _⟩ => ⟨S8x8x2048x32, .f32⟩
  | .hbm, ⟨60, _⟩ => ⟨S1x1x2048x32, .f32⟩
  | .hbm, ⟨61, _⟩ => ⟨S8x8x2048x32, .f32⟩
  | .hbm, ⟨62, _⟩ => ⟨S8x8x2048x32, .f32⟩
  | .hbm, ⟨63, _⟩ => ⟨S8x8x2048x32, .f32⟩
  | .hbm, ⟨64, _⟩ => ⟨S8x8x2048x64, .f32⟩
  | .hbm, ⟨65, _⟩ => ⟨S8x2048x8x64, .f32⟩
  | .hbm, ⟨66, _⟩ => ⟨S8x2048x512, .f32⟩
  | .hbm, ⟨67, _⟩ => ⟨S16384x512, .f32⟩
  | .hbm, ⟨68, _⟩ => ⟨S_, .f32⟩
  | .hbm, ⟨69, _⟩ => ⟨S16384x512, .f32⟩
  | .hbm, ⟨70, _⟩ => ⟨S16384x512, .f32⟩
  | .hbm, ⟨71, _⟩ => ⟨S16384x512, .bf16⟩
  | .hbm, ⟨72, _⟩ => ⟨S8x2048x8x64, .f32⟩
  | .hbm, ⟨73, _⟩ => ⟨S8x8x2048x64, .f32⟩
  | .hbm, ⟨74, _⟩ => ⟨S32, .f32⟩
  | .hbm, ⟨75, _⟩ => ⟨S_, .f32⟩
  | .hbm, ⟨76, _⟩ => ⟨S32, .f32⟩
  | .hbm, ⟨77, _⟩ => ⟨S32, .f32⟩
  | .hbm, ⟨78, _⟩ => ⟨S_, .f32⟩
  | .hbm, ⟨79, _⟩ => ⟨S32, .f32⟩
  | .hbm, ⟨80, _⟩ => ⟨S32, .f32⟩
  | .hbm, ⟨81, _⟩ => ⟨S_, .f32⟩
  | .hbm, ⟨82, _⟩ => ⟨S32, .f32⟩
  | .hbm, ⟨83, _⟩ => ⟨S32, .f32⟩
  | .hbm, ⟨84, _⟩ => ⟨S2048, .f32⟩
  | .hbm, ⟨85, _⟩ => ⟨S2048x1, .f32⟩
  | .hbm, ⟨86, _⟩ => ⟨S1x32, .f32⟩
  | .hbm, ⟨87, _⟩ => ⟨S2048x32, .f32⟩
  | .hbm, ⟨88, _⟩ => ⟨S2048x32, .f32⟩
  | .hbm, ⟨89, _⟩ => ⟨S2048x32, .f32⟩
  | .hbm, ⟨90, _⟩ => ⟨S2048x32, .f32⟩
  | .hbm, ⟨91, _⟩ => ⟨S2048x32, .f32⟩
  | .hbm, ⟨92, _⟩ => ⟨S8x8x2048x32, .f32⟩
  | .hbm, ⟨93, _⟩ => ⟨S8x8x2048x32, .f32⟩
  | .hbm, ⟨94, _⟩ => ⟨S1x1x2048x32, .f32⟩
  | .hbm, ⟨95, _⟩ => ⟨S8x8x2048x32, .f32⟩
  | .hbm, ⟨96, _⟩ => ⟨S8x8x2048x32, .f32⟩
  | .hbm, ⟨97, _⟩ => ⟨S1x1x2048x32, .f32⟩
  | .hbm, ⟨98, _⟩ => ⟨S8x8x2048x32, .f32⟩
  | .hbm, ⟨99, _⟩ => ⟨S8x8x2048x32, .f32⟩
  | .hbm, ⟨100, _⟩ => ⟨S8x8x2048x32, .f32⟩
  | .hbm, ⟨101, _⟩ => ⟨S1x1x2048x32, .f32⟩
  | .hbm, ⟨102, _⟩ => ⟨S8x8x2048x32, .f32⟩
  | .hbm, ⟨103, _⟩ => ⟨S8x8x2048x32, .f32⟩
  | .hbm, ⟨104, _⟩ => ⟨S1x1x2048x32, .f32⟩
  | .hbm, ⟨105, _⟩ => ⟨S8x8x2048x32, .f32⟩
  | .hbm, ⟨106, _⟩ => ⟨S8x8x2048x32, .f32⟩
  | .hbm, ⟨107, _⟩ => ⟨S8x8x2048x32, .f32⟩
  | .hbm, ⟨108, _⟩ => ⟨S8x8x2048x64, .f32⟩
  | .hbm, ⟨109, _⟩ => ⟨S8x2048x8x64, .f32⟩
  | .hbm, ⟨110, _⟩ => ⟨S8x2048x512, .f32⟩
  | .hbm, ⟨111, _⟩ => ⟨S16384x512, .f32⟩
  | .hbm, ⟨112, _⟩ => ⟨S16384x512, .bf16⟩
  | .hbm, ⟨113, _⟩ => ⟨S16384x512, .f32⟩
  | .hbm, ⟨114, _⟩ => ⟨S16384x512, .bf16⟩
  | .hbm, ⟨115, _⟩ => ⟨S16384x512, .f32⟩
  | .hbm, ⟨116, _⟩ => ⟨S16384x512, .bf16⟩
  | .hbm, ⟨117, _⟩ => ⟨S16384x512, .f32⟩
  | .hbm, ⟨118, _⟩ => ⟨S16384x512, .f32⟩
  | .hbm, ⟨119, _⟩ => ⟨S16384x512, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_cst_5 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_cst_6 : Ref sig .tc := ⟨.hbm, 75, rfl⟩
abbrev main_v65 : Ref sig .tc := ⟨.hbm, 76, rfl⟩
abbrev main_v66 : Ref sig .tc := ⟨.hbm, 77, rfl⟩
abbrev main_cst_7 : Ref sig .tc := ⟨.hbm, 78, rfl⟩
abbrev main_v67 : Ref sig .tc := ⟨.hbm, 79, rfl⟩
abbrev main_v68 : Ref sig .tc := ⟨.hbm, 80, rfl⟩
abbrev main_cst_8 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩

abbrev nD : Nat := 1
abbrev τ : Topo := Topo.v7x

variable {F : FTy → Type} [FloatOps F]
-- ==== Kernel2.lean ====
abbrev S8x2048x1024 : Shape := ⟨3, ![8, 2048, 1024]⟩
abbrev S16384x512 : Shape := ⟨2, ![16384, 512]⟩
abbrev S1x512x512 : Shape := ⟨3, ![1, 512, 512]⟩
abbrev S1x512 : Shape := ⟨2, ![1, 512]⟩
abbrev S1x1024x1024 : Shape := ⟨3, ![1, 1024, 1024]⟩
abbrev S1024 : Shape := ⟨1, ![1024]⟩
abbrev S16384x1024 : Shape := ⟨2, ![16384, 1024]⟩
abbrev S512x512 : Shape := ⟨2, ![512, 512]⟩
abbrev S512 : Shape := ⟨1, ![512]⟩
abbrev S1024x1024 : Shape := ⟨2, ![1024, 1024]⟩
abbrev S1x1024 : Shape := ⟨2, ![1, 1024]⟩
abbrev S1024x512 : Shape := ⟨2, ![1024, 512]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩

abbrev nBuf : Space → Nat
  | .hbm => 15
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S16384x512, .bf16⟩
  | .hbm, ⟨2, _⟩ => ⟨S16384x512, .f32⟩
  | .hbm, ⟨3, _⟩ => ⟨S16384x512, .bf16⟩
  | .hbm, ⟨4, _⟩ => ⟨S1x512x512, .f32⟩
  | .hbm, ⟨5, _⟩ => ⟨S1x512, .f32⟩
  | .hbm, ⟨6, _⟩ => ⟨S1x1024x1024, .f32⟩
  | .hbm, ⟨7, _⟩ => ⟨S1024, .f32⟩
  | .hbm, ⟨8, _⟩ => ⟨S16384x1024, .f32⟩
  | .hbm, ⟨9, _⟩ => ⟨S512x512, .f32⟩
  | .hbm, ⟨10, _⟩ => ⟨S512, .f32⟩
  | .hbm, ⟨11, _⟩ => ⟨S1x512, .f32⟩
  | .hbm, ⟨12, _⟩ => ⟨S1024x1024, .f32⟩
  | .hbm, ⟨13, _⟩ => ⟨S1x1024, .f32⟩
  | .hbm, ⟨14, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | .local _ .vmem, ⟨8, _⟩ => ⟨S512x512, .f32⟩
  | .local _ .vmem, ⟨9, _⟩ => ⟨S1x512, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S512x512, .bf16⟩
  | .local _ .vmem, ⟨15, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S8x2048x1024 : Shape := ⟨3, ![8, 2048, 1024]⟩
abbrev S16384x512 : Shape := ⟨2, ![16384, 512]⟩
abbrev S1x512x512 : Shape := ⟨3, ![1, 512, 512]⟩
abbrev S1x512 : Shape := ⟨2, ![1, 512]⟩
abbrev S1x1024x1024 : Shape := ⟨3, ![1, 1024, 1024]⟩
abbrev S1024 : Shape := ⟨1, ![1024]⟩
abbrev S8x2048x512 : Shape := ⟨3, ![8, 2048, 512]⟩
abbrev S_ : Shape := ⟨0, ![]⟩
abbrev S512x512 : Shape := ⟨2, ![512, 512]⟩
abbrev S512 : Shape := ⟨1, ![512]⟩
abbrev S1x1x512 : Shape := ⟨3, ![1, 1, 512]⟩
abbrev S1024x1024 : Shape := ⟨2, ![1024, 1024]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩

abbrev nBuf : Space → Nat
  | .hbm => 76
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S16384x512, .bf16⟩
  | .hbm, ⟨2, _⟩ => ⟨S16384x512, .f32⟩
  | .hbm, ⟨3, _⟩ => ⟨S16384x512, .bf16⟩
  | .hbm, ⟨4, _⟩ => ⟨S1x512x512, .f32⟩
  | .hbm, ⟨5, _⟩ => ⟨S1x512, .f32⟩
  | .hbm, ⟨6, _⟩ => ⟨S1x1024x1024, .f32⟩
  | .hbm, ⟨7, _⟩ => ⟨S1024, .f32⟩
  | .hbm, ⟨8, _⟩ => ⟨S8x2048x512, .f32⟩
  | .hbm, ⟨9, _⟩ => ⟨S8x2048x512, .f32⟩
  | .hbm, ⟨10, _⟩ => ⟨S8x2048x512, .f32⟩
  | .hbm, ⟨11, _⟩ => ⟨S_, .f32⟩
  | .hbm, ⟨12, _⟩ => ⟨S8x2048x512, .f32⟩
  | .hbm, ⟨13, _⟩ => ⟨S8x2048x512, .f32⟩
  | .hbm, ⟨14, _⟩ => ⟨S8x2048x512, .f32⟩
  | .hbm, ⟨15, _⟩ => ⟨S_, .f32⟩
  | .hbm, ⟨16, _⟩ => ⟨S8x2048x512, .f32⟩
  | .hbm, ⟨17, _⟩ => ⟨S8x2048x512, .f32⟩
  | .hbm, ⟨18, _⟩ => ⟨S8x2048x512, .f32⟩
  | .hbm, ⟨19, _⟩ => ⟨S_, .f32⟩
  | .hbm, ⟨20, _⟩ => ⟨S8x2048x512, .f32⟩
  | .hbm, ⟨21, _⟩ => ⟨S8x2048x512, .f32⟩
  | .hbm, ⟨22, _⟩ => ⟨S_, .f32⟩
  | .hbm, ⟨23, _⟩ => ⟨S8x2048x512, .f32⟩
  | .hbm, ⟨24, _⟩ => ⟨S8x2048x512, .f32⟩
  | .hbm, ⟨25, _⟩ => ⟨S8x2048x512, .f32⟩
  | .hbm, ⟨26, _⟩ => ⟨S512x512, .f32⟩
  | .hbm, ⟨27, _⟩ => ⟨S8x2048x512, .f32⟩
  | .hbm, ⟨28, _⟩ => ⟨S512, .f32⟩
  | .hbm, ⟨29, _⟩ => ⟨S1x1x512, .f32⟩
  | .hbm, ⟨30, _⟩ => ⟨S8x2048x512, .f32⟩
  | .hbm, ⟨31, _⟩ => ⟨S8x2048x512, .f32⟩
  | .hbm, ⟨32, _⟩ => ⟨S8x2048x512, .f32⟩
  | .hbm, ⟨33, _⟩ => ⟨S8x2048x512, .f32⟩
  | .hbm, ⟨34, _⟩ => ⟨S_, .f32⟩
  | .hbm, ⟨35, _⟩ => ⟨S8x2048x512, .f32⟩
  | .hbm, ⟨36, _⟩ => ⟨S8x2048x512, .f32⟩
  | .hbm, ⟨37, _⟩ => ⟨S_, .f32⟩
  | .hbm, ⟨38, _⟩ => ⟨S8x2048x512, .f32⟩
  | .hbm, ⟨39, _⟩ => ⟨S8x2048x512, .f32⟩
  | .hbm, ⟨40, _⟩ => ⟨S8x2048x512, .f32⟩
  | .hbm, ⟨41, _⟩ => ⟨S16384x512, .f32⟩
  | .hbm, ⟨42, _⟩ => ⟨S8x2048x512, .f32⟩
  | .hbm, ⟨43, _⟩ => ⟨S8x2048x512, .f32⟩
  | .hbm, ⟨44, _⟩ => ⟨S8x2048x512, .f32⟩
  | .hbm, ⟨45, _⟩ => ⟨S_, .f32⟩
  | .hbm, ⟨46, _⟩ => ⟨S8x2048x512, .f32⟩
  | .hbm, ⟨47, _⟩ => ⟨S8x2048x512, .f32⟩
  | .hbm, ⟨48, _⟩ => ⟨S_, .f32⟩
  | .hbm, ⟨49, _⟩ => ⟨S8x2048x512, .f32⟩
  | .hbm, ⟨50, _⟩ => ⟨S8x2048x512, .f32⟩
  | .hbm, ⟨51, _⟩ => ⟨S8x2048x512, .f32⟩
  | .hbm, ⟨52, _⟩ => ⟨S8x2048x512, .f32⟩
  | .hbm, ⟨53, _⟩ => ⟨S16384x512, .f32⟩
  | .hbm, ⟨54, _⟩ => ⟨S8x2048x512, .f32⟩
  | .hbm, ⟨55, _⟩ => ⟨S8x2048x1024, .f32⟩
  | .hbm, ⟨56, _⟩ => ⟨S1024x1024, .f32⟩
  | .hbm, ⟨57, _⟩ => ⟨S8x2048x1024, .f32⟩
  | .hbm, ⟨58, _⟩ => ⟨S8x2048x1024, .f32⟩
  | .hbm, ⟨59, _⟩ => ⟨S8x2048x1024, .f32⟩
  | .hbm, ⟨60, _⟩ => ⟨S_, .f32⟩
  | .hbm, ⟨61, _⟩ => ⟨S8x2048, .f32⟩
  | .hbm, ⟨62, _⟩ => ⟨S8x2048x1, .f32⟩
  | .hbm, ⟨63, _⟩ => ⟨S_, .f32⟩
  | .hbm, ⟨64, _⟩ => ⟨S8x2048x1, .f32⟩
  | .hbm, ⟨65, _⟩ => ⟨S8x2048x1, .f32⟩
  | .hbm, ⟨66, _⟩ => ⟨S_, .f32⟩
  | .hbm, ⟨67, _⟩ => ⟨S8x2048x1, .f32⟩
  | .hbm, ⟨68, _⟩ => ⟨S8x2048x1, .f32⟩
  | .hbm, ⟨69, _⟩ => ⟨S8x2048x1, .f32⟩
  | .hbm, ⟨70, _⟩ => ⟨S8x2048x1024, .f32⟩
  | .hbm, ⟨71, _⟩ => ⟨S8x2048x1024, .f32⟩
  | .hbm, ⟨72, _⟩ => ⟨S1x1x1024, .f32⟩
  | .hbm, ⟨73, _⟩ => ⟨S8x2048x1024, .f32⟩
  | .hbm, ⟨74, _⟩ => ⟨S8x2048x1024, .f32⟩
  | .hbm, ⟨75, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_5 : Ref sig .tc := ⟨.hbm, 60, rfl⟩
abbrev main_v38 : Ref sig .tc := ⟨.hbm, 61, rfl⟩
abbrev main_v39 : Ref sig .tc := ⟨.hbm, 62, rfl⟩
abbrev main_cst_6 : Ref sig .tc := ⟨.hbm, 63, rfl⟩
abbrev main_v40 : Ref sig .tc := ⟨.hbm, 64, rfl⟩
abbrev main_v41 : Ref sig .tc := ⟨.hbm, 65, rfl⟩
abbrev main_cst_7 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩

abbrev nD : Nat := 1
abbrev τ : Topo := Topo.v7x

variable {F : FTy → Type} [FloatOps F]
-- ==== Kernel3.lean ====
abbrev S8x2048x512 : Shape := ⟨3, ![8, 2048, 512]⟩
abbrev S1x2048x128 : Shape := ⟨3, ![1, 2048, 128]⟩
abbrev S2x2x8x256x128 : Shape := ⟨5, ![2, 2, 8, 256, 128]⟩
abbrev S2x8x2x80x256 : Shape := ⟨5, ![2, 8, 2, 80, 256]⟩
abbrev S2x8x2x128x256 : Shape := ⟨5, ![2, 8, 2, 128, 256]⟩
abbrev S2x2x8x256x256 : Shape := ⟨5, ![2, 2, 8, 256, 256]⟩
abbrev S2x2x1x256 : Shape := ⟨4, ![2, 2, 1, 256]⟩
abbrev S2x2x2x80x256 : Shape := ⟨5, ![2, 2, 2, 80, 256]⟩
abbrev S256x256 : Shape := ⟨2, ![256, 256]⟩
abbrev S256x128 : Shape := ⟨2, ![256, 128]⟩
abbrev S16x256 : Shape := ⟨2, ![16, 256]⟩
abbrev S1x256x128 : Shape := ⟨3, ![1, 256, 128]⟩
abbrev S128 : Shape := ⟨1, ![128]⟩
abbrev S1x128 : Shape := ⟨2, ![1, 128]⟩
abbrev S128x256 : Shape := ⟨2, ![128, 256]⟩
abbrev S1x1x1x256x128 : Shape := ⟨5, ![1, 1, 1, 256, 128]⟩
abbrev S64x256 : Shape := ⟨2, ![64, 256]⟩
abbrev S80x256 : Shape := ⟨2, ![80, 256]⟩
abbrev S1x1x1x80x256 : Shape := ⟨5, ![1, 1, 1, 80, 256]⟩
abbrev S8x128 : Shape := ⟨2, ![8, 128]⟩
abbrev S8x256 : Shape := ⟨2, ![8, 256]⟩
abbrev S1x256 : Shape := ⟨2, ![1, 256]⟩
abbrev S56x256 : Shape := ⟨2, ![56, 256]⟩
abbrev S1x1x1x128x256 : Shape := ⟨5, ![1, 1, 1, 128, 256]⟩
abbrev S1x1x1x256x256 : Shape := ⟨5, ![1, 1, 1, 256, 256]⟩
abbrev S256 : Shape := ⟨1, ![256]⟩
abbrev S1x1x1x256 : Shape := ⟨4, ![1, 1, 1, 256]⟩
abbrev S1x2x2x80x256 : Shape := ⟨5, ![1, 2, 2, 80, 256]⟩
abbrev S2x2x80x256 : Shape := ⟨4, ![2, 2, 80, 256]⟩
abbrev S1x1x80x256 : Shape := ⟨4, ![1, 1, 80, 256]⟩

abbrev nBuf : Space → Nat
  | .hbm => 5
  | .vmem => 20
  | .smem => 0
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S8x2048x512, .bf16⟩
  | .hbm, ⟨3, _⟩ => ⟨S8x2048x512, .bf16⟩
  | .hbm, ⟨4, _⟩ => ⟨S8x2048x512, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x2048x128, .bf16⟩
  | .local _ .vmem, ⟨13, _⟩ => ⟨S2x2x8x256x128, .bf16⟩
  | .local _ .vmem, ⟨14, _⟩ => ⟨S2x8x2x80x256, .bf16⟩
  | .local _ .vmem, ⟨15, _⟩ => ⟨S2x8x2x128x256, .bf16⟩
  | .local _ .vmem, ⟨16, _⟩ => ⟨S2x2x8x256x256, .f32⟩
  | .local _ .vmem, ⟨17, _⟩ => ⟨S2x2x8x256x256, .f32⟩
  | .local _ .vmem, ⟨18, _⟩ => ⟨S2x2x1x256, .f32⟩
  | .local _ .vmem, ⟨19, _⟩ => ⟨S2x2x2x80x256, .f32⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_0 : BitVec 32 := 0#32
  let v6 : BitVec 1 := Scalar.cmpi .ne v5 c0_i32_0
  v6

def k0_off1 (i : grid0.Coords) (c0_i32_4704 : BitVec 32) : Fin 5 → Nat :=
  let arg0 : BitVec 32 := BitVec.ofNat 32 (i 0).val
  let c0_i32_4703 : BitVec 32 := 0#32
  let v8031 : BitVec 32 := Scalar.minsi arg0 c0_i32_4703
  let v8032 : BitVec 32 := Scalar.addi c0_i32_4704 v8031
  let v8033 : Index := Scalar.indexCast v8032
  let c0_4705 : Index := 0#32
  let c0_4706 : Index := 0#32
  let c0_4707 : Index := 0#32
  let c0_4708 : Index := 0#32
  ![v8033.toNat, 0, 0, 0, 0]
def k0_off2 (i : grid0.Coords) (c0_i32_4723 : BitVec 32) : Fin 5 → Nat :=
  let arg0 : BitVec 32 := BitVec.ofNat 32 (i 0).val
  let c0_i32_4722 : BitVec 32 := 0#32
  let v8047 : BitVec 32 := Scalar.minsi arg0 c0_i32_4722
  let v8048 : BitVec 32 := Scalar.addi c0_i32_4723 v8047
  let v8049 : Index := Scalar.indexCast v8048
  let c1_4724 : Index := 1#32
  let c0_4725 : Index := 0#32
  let c0_4726 : Index := 0#32
  let c0_4727 : Index := 0#32
  ![v8049.toNat, 1, 0, 0, 0]
def k0_off3 (i : grid0.Coords) : Fin 5 → Nat :=
  let c1_i32_4742 : BitVec 32 := 1#32
  let arg0 : BitVec 32 := BitVec.ofNat 32 (i 0).val
  let c0_i32_4741 : BitVec 32 := 0#32
  let v8063 : BitVec 32 := Scalar.minsi arg0 c0_i32_4741
  let v8064 : BitVec 32 := Scalar.addi c1_i32_4742 v8063
  let v8065 : Index := Scalar.indexCast v8064
  let c0_4743 : Index := 0#32
  let c7_4744 : Index := 7#32
  let c0_4745 : Index := 0#32
  let c0_4746 : Index := 0#32
  ![v8065.toNat, 0, 7, 0, 0]
def k0_off4 (i : grid0.Coords) : Fin 5 → Nat :=
  let c1_i32_4761 : BitVec 32 := 1#32
  let arg0 : BitVec 32 := BitVec.ofNat 32 (i 0).val
  let c0_i32_4760 : BitVec 32 := 0#32
  let v8079 : BitVec 32 := Scalar.minsi arg0 c0_i32_4760
  let v8080 : BitVec 32 := Scalar.addi c1_i32_4761 v8079
  let v8081 : Index := Scalar.indexCast v8080
  let c1_4762 : Index := 1#32
  let c7_4763 : Index := 7#32
  let c0_4764 : Index := 0#32
  let c0_4765 : Index := 0#32
  ![v8081.toNat, 1, 7, 0, 0]
def k0_off5 (i : grid0.Coords) : Fin 5 → Nat :=
  let c1_i32_4815 : BitVec 32 := 1#32
  let arg0 : BitVec 32 := BitVec.ofNat 32 (i 0).val
  let c0_i32_4814 : BitVec 32 := 0#32
  let v8120 : BitVec 32 := Scalar.minsi arg0 c0_i32_4814
  let v8121 : BitVec 32 := Scalar.addi c1_i32_4815 v8120
  let v8122 : Index := Scalar.indexCast v8121
  let c0_4816 : Index := 0#32
  let c1_4817 : Index := 1#32
  let c0_4818 : Index := 0#32
  let c0_4819 : Index := 0#32
  ![v8122.toNat, 0, 1, 0, 0]
def k0_off6 (i : grid0.Coords) : Fin 5 → Nat :=
  let c1_i32_4833 : BitVec 32 := 1#32
  let arg0 : BitVec 32 := BitVec.ofNat 32 (i 0).val
  let c0_i32_4832 : BitVec 32 := 0#32
  let v8134 : BitVec 32 := Scalar.minsi arg0 c0_i32_4832
  let v8135 : BitVec 32 := Scalar.addi c1_i32_4833 v8134
  let v8136 : Index := Scalar.indexCast v8135
  let c1_4834 : Index := 1#32
  let c1_4835 : Index := 1#32
  let c0_4836 : Index := 0#32
  let c0_4837 : Index := 0#32
  ![v8136.toNat, 1, 1, 0, 0]
def k0_off7 (i : grid0.Coords) : Fin 5 → Nat :=
  let c1_i32_4851 : BitVec 32 := 1#32
  let arg0 : BitVec 32 := BitVec.ofNat 32 (i 0).val
  let c0_i32_4850 : BitVec 32 := 0#32
  let v8148 : BitVec 32 := Scalar.minsi arg0 c0_i32_4850
  let v8149 : BitVec 32 := Scalar.addi c1_i32_4851 v8148
  let v8150 : Index := Scalar.indexCast v8149
  let c0_4852 : Index := 0#32
  let c2_4853 : Index := 2#32
  let c0_4854 : Index := 0#32
  let c0_4855 : Index := 0#32
  ![v8150.toNat, 0, 2, 0, 0]
def k0_off8 (i : grid0.Coords) : Fin 5 → Nat :=
  let c1_i32_4869 : BitVec 32 := 1#32
  let arg0 : BitVec 32 := BitVec.ofNat 32 (i 0).val
  let c0_i32_4868 : BitVec 32 := 0#32
  let v8162 : BitVec 32 := Scalar.minsi arg0 c0_i32_4868
  let v8163 : BitVec 32 := Scalar.addi c1_i32_4869 v8162
  let v8164 : Index := Scalar.indexCast v8163
  let c1_4870 : Index := 1#32
  let c2_4871 : Index := 2#32
  let c0_4872 : Index := 0#32
  let c0_4873 : Index := 0#32
  ![v8164.toNat, 1, 2, 0, 0]
def k0_off9 (i : grid0.Coords) : Fin 5 → Nat :=
  let c1_i32_4887 : BitVec 32 := 1#32
  let arg0 : BitVec 32 := BitVec.ofNat 32 (i 0).val
  let c0_i32_4886 : BitVec 32 := 0#32
  let v8176 : BitVec 32 := Scalar.minsi arg0 c0_i32_4886
  let v8177 : BitVec 32 := Scalar.addi c1_i32_4887 v8176
  let v8178 : Index := Scalar.indexCast v8177
  let c0_4888 : Index := 0#32
  let c3_4889 : Index := 3#32
  let c0_4890 : Index := 0#32
  let c0_4891 : Index := 0#32
  ![v8178.toNat, 0, 3, 0, 0]
def k0_off10 (i : grid0.Coords) : Fin 5 → Nat :=
  let c1_i32_4905 : BitVec 32 := 1#32
  let arg0 : BitVec 32 := BitVec.ofNat 32 (i 0).val
  let c0_i32_4904 : BitVec 32 := 0#32
  let v8190 : BitVec 32 := Scalar.minsi arg0 c0_i32_4904
  let v8191 : BitVec 32 := Scalar.addi c1_i32_4905 v8190
  let v8192 : Index := Scalar.indexCast v8191
  let c1_4906 : Index := 1#32
  let c3_4907 : Index := 3#32
  let c0_4908 : Index := 0#32
  let c0_4909 : Index := 0#32
  ![v8192.toNat, 1, 3, 0, 0]
def k0_off11 (i : grid0.Coords) : Fin 5 → Nat :=
  let c1_i32_4923 : BitVec 32 := 1#32
  let arg0 : BitVec 32 := BitVec.ofNat 32 (i 0).val
  let c0_i32_4922 : BitVec 32 := 0#32
  let v8204 : BitVec 32 := Scalar.minsi arg0 c0_i32_4922
  let v8205 : BitVec 32 := Scalar.addi c1_i32_4923 v8204
  let v8206 : Index := Scalar.indexCast v8205
  let c0_4924 : Index := 0#32
  let c4_4925 : Index := 4#32
  let c0_4926 : Index := 0#32
  let c0_4927 : Index := 0#32
  ![v8206.toNat, 0, 4, 0, 0]
def k0_off12 (i : grid0.Coords) : Fin 5 → Nat :=
  let c1_i32_4941 : BitVec 32 := 1#32
  let arg0 : BitVec 32 := BitVec.ofNat 32 (i 0).val
  let c0_i32_4940 : BitVec 32 := 0#32
  let v8218 : BitVec 32 := Scalar.minsi arg0 c0_i32_4940
  let v8219 : BitVec 32 := Scalar.addi c1_i32_4941 v8218
  let v8220 : Index := Scalar.indexCast v8219
  let c1_4942 : Index := 1#32
  let c4_4943 : Index := 4#32
  let c0_4944 : Index := 0#32
  let c0_4945 : Index := 0#32
  ![v8220.toNat, 1, 4, 0, 0]
def k0_off13 (i : grid0.Coords) : Fin 5 → Nat :=
  let c1_i32_4959 : BitVec 32 := 1#32
  let arg0 : BitVec 32 := BitVec.ofNat 32 (i 0).val
  let c0_i32_4958 : BitVec 32 := 0#32
  let v8232 : BitVec 32 := Scalar.minsi arg0 c0_i32_4958
  let v8233 : BitVec 32 := Scalar.addi c1_i32_4959 v8232
  let v8234 : Index := Scalar.indexCast v8233
  let c0_4960 : Index := 0#32
  let c5_4961 : Index := 5#32
  let c0_4962 : Index := 0#32
  let c0_4963 : Index := 0#32
  ![v8234.toNat, 0, 5, 0, 0]
def k0_off14 (i : grid0.Coords) : Fin 5 → Nat :=
  let c1_i32_4977 : BitVec 32 := 1#32
  let arg0 : BitVec 32 := BitVec.ofNat 32 (i 0).val
  let c0_i32_4976 : BitVec 32 := 0#32
  let v8246 : BitVec 32 := Scalar.minsi arg0 c0_i32_4976
  let v8247 : BitVec 32 := Scalar.addi c1_i32_4977 v8246
  let v8248 : Index := Scalar.indexCast v8247
  let c1_4978 : Index := 1#32
  let c5_4979 : Index := 5#32
  let c0_4980 : Index := 0#32
  let c0_4981 : Index := 0#32
  ![v8248.toNat, 1, 5, 0, 0]
def k0_off15 (i : grid0.Coords) : Fin 5 → Nat :=
  let c1_i32_4995 : BitVec 32 := 1#32
  let arg0 : BitVec 32 := BitVec.ofNat 32 (i 0).val
  let c0_i32_4994 : BitVec 32 := 0#32
  let v8260 : BitVec 32 := Scalar.minsi arg0 c0_i32_4994
  let v8261 : BitVec 32 := Scalar.addi c1_i32_4995 v8260
  let v8262 : Index := Scalar.indexCast v8261
  let c0_4996 : Index := 0#32
  let c6_4997 : Index := 6#32
  let c0_4998 : Index := 0#32
  let c0_4999 : Index := 0#32
  ![v8262.toNat, 0, 6, 0, 0]
def k0_off16 (i : grid0.Coords) : Fin 5 → Nat :=
  let c1_i32_5013 : BitVec 32 := 1#32
  let arg0 : BitVec 32 := BitVec.ofNat 32 (i 0).val
  let c0_i32_5012 : BitVec 32 := 0#32
  let v8274 : BitVec 32 := Scalar.minsi arg0 c0_i32_5012
  let v8275 : BitVec 32 := Scalar.addi c1_i32_5013 v8274
  let v8276 : Index := Scalar.indexCast v8275
  let c1_5014 : Index := 1#32
  let c6_5015 : Index := 6#32
  let c0_5016 : Index := 0#32
  let c0_5017 : Index := 0#32
  ![v8276.toNat, 1, 6, 0, 0]
def k0_off17 (i : grid0.Coords) : Fin 5 → Nat :=
  let arg0 : BitVec 32 := BitVec.ofNat 32 (i 0).val
  let c2_i32 : BitVec 32 := 2#32
  let v0 : BitVec 32 := Scalar.remsi arg0 c2_i32
  let v15 : Index := Scalar.indexCast v0
  let c0_15 : Index := 0#32
  let c1_16 : Index := 1#32
  let c0_17 : Index := 0#32
  let c0_18 : Index := 0#32
  ![v15.toNat, 0, 1, 0, 0]
def k0_off18 (i : grid0.Coords) : Fin 5 → Nat :=
  let arg0 : BitVec 32 := BitVec.ofNat 32 (i 0).val
  let c2_i32 : BitVec 32 := 2#32
  let v0 : BitVec 32 := Scalar.remsi arg0 c2_i32
  let v18 : Index := Scalar.indexCast v0
  let c1_19 : Index := 1#32
  let c0_20 : Index := 0#32
  let c0_21 : Index := 0#32
  let c0_22 : Index := 0#32
  ![v18.toNat, 1, 0, 0, 0]
def k0_off19 (i : grid0.Coords) (c0_i32_25 : BitVec 32) : Fin 5 → Nat :=
  let arg0 : BitVec 32 := BitVec.ofNat 32 (i 0).val
  let c0_i32_24 : BitVec 32 := 0#32
  let v25 : BitVec 32 := Scalar.minsi arg0 c0_i32_24
  let v26 : BitVec 32 := Scalar.addi c0_i32_25 v25
  let v27 : Index := Scalar.indexCast v26
  let c0_26 : Index := 0#32
  let c1_27 : Index := 1#32
  let c0_28 : Index := 0#32
  let c0_29 : Index := 0#32
  ![v27.toNat, 0, 1, 0, 0]
def k0_off20 (i : grid0.Coords) (c0_i32_32 : BitVec 32) : Fin 5 → Nat :=
  let arg0 : BitVec 32 := BitVec.ofNat 32 (i 0).val
  let c0_i32_31 : BitVec 32 := 0#32
  let v33 : BitVec 32 := Scalar.minsi arg0 c0_i32_31
  let v34 : BitVec 32 := Scalar.addi c0_i32_32 v33
  let v35 : Index := Scalar.indexCast v34
  let c0_33 : Index := 0#32
  let c0_34 : Index := 0#32
  let c0_35 : Index := 0#32
  let c0_36 : Index := 0#32
  ![v35.toNat, 0, 0, 0, 0]
def k0_off21 (i : grid0.Coords) : Fin 5 → Nat :=
  let arg0 : BitVec 32 := BitVec.ofNat 32 (i 0).val
  let c2_i32 : BitVec 32 := 2#32
  let v0 : BitVec 32 := Scalar.remsi arg0 c2_i32
  let v42 : Index := Scalar.indexCast v0
  let c0_37 : Index := 0#32
  let c0_38 : Index := 0#32
  let c0_39 : Index := 0#32
  let c0_40 : Index := 0#32
  ![v42.toNat, 0, 0, 0, 0]
def k0_off22 (i : grid0.Coords) (c0_i32_43 : BitVec 32) : Fin 4 → Nat :=
  let arg0 : BitVec 32 := BitVec.ofNat 32 (i 0).val
  let c0_i32_42 : BitVec 32 := 0#32
  let v46 : BitVec 32 := Scalar.minsi arg0 c0_i32_42
  let v47 : BitVec 32 := Scalar.addi c0_i32_43 v46
  let v50 : Index := Scalar.indexCast v47
  let c0_49 : Index := 0#32
  let c0_50 : Index := 0#32
  let c0_51 : Index := 0#32
  ![v50.toNat, 0, 0, 0]
def k0_off23 (i : grid0.Coords) : Fin 5 → Nat :=
  let arg0 : BitVec 32 := BitVec.ofNat 32 (i 0).val
  let c2_i32 : BitVec 32 := 2#32
  let v0 : BitVec 32 := Scalar.remsi arg0 c2_i32
  let v54 : Index := Scalar.indexCast v0
  let c1_52 : Index := 1#32
  let c1_53 : Index := 1#32
  let c0_54 : Index := 0#32
  let c0_55 : Index := 0#32
  ![v54.toNat, 1, 1, 0, 0]
def k0_off24 (i : grid0.Coords) : Fin 5 → Nat :=
  let arg0 : BitVec 32 := BitVec.ofNat 32 (i 0).val
  let c2_i32 : BitVec 32 := 2#32
  let v0 : BitVec 32 := Scalar.remsi arg0 c2_i32
  let v57 : Index := Scalar.indexCast v0
  let c1_56 : Index := 1#32
  let c1_57 : Index := 1#32
  let c0_58 : Index := 0#32
  let c0_59 : Index := 0#32
  ![v57.toNat, 1, 1, 0, 0]
def k0_off25 (i : grid0.Coords) (c0_i32_63 : BitVec 32) : Fin 5 → Nat :=
  let arg0 : BitVec 32 := BitVec.ofNat 32 (i 0).val
  let c0_i32_62 : BitVec 32 := 0#32
  let v64 : BitVec 32 := Scalar.minsi arg0 c0_i32_62
  let v65 : BitVec 32 := Scalar.addi c0_i32_63 v64
  let v66 : Index := Scalar.indexCast v65
  let c1_64 : Index := 1#32
  let c1_65 : Index := 1#32
  let c0_66 : Index := 0#32
  let c0_67 : Index := 0#32
  ![v66.toNat, 1, 1, 0, 0]
def k0_off26 (i : grid0.Coords) (c0_i32_70 : BitVec 32) : Fin 5 → Nat :=
  let arg0 : BitVec 32 := BitVec.ofNat 32 (i 0).val
  let c0_i32_69 : BitVec 32 := 0#32
  let v72 : BitVec 32 := Scalar.minsi arg0 c0_i32_69
  let v73 : BitVec 32 := Scalar.addi c0_i32_70 v72
  let v74 : Index := Scalar.indexCast v73
  let c1_71 : Index := 1#32
  let c0_72 : Index := 0#32
  let c0_73 : Index := 0#32
  let c0_74 : Index := 0#32
  ![v74.toNat, 1, 0, 0, 0]
def k0_off27 (i : grid0.Coords) : Fin 5 → Nat :=
  let arg0 : BitVec 32 := BitVec.ofNat 32 (i 0).val
  let c2_i32 : BitVec 32 := 2#32
  let v0 : BitVec 32 := Scalar.remsi arg0 c2_i32
  let v81 : Index := Scalar.indexCast v0
  let c0_75 : Index := 0#32
  let c1_76 : Index := 1#32
  let c0_77 : Index := 0#32
  let c0_78 : Index := 0#32
  ![v81.toNat, 0, 1, 0, 0]
def k0_off28 (i : grid0.Coords) (c0_i32_81 : BitVec 32) : Fin 4 → Nat :=
  let arg0 : BitVec 32 := BitVec.ofNat 32 (i 0).val
  let c0_i32_80 : BitVec 32 := 0#32
  let v85 : BitVec 32 := Scalar.minsi arg0 c0_i32_80
  let v86 : BitVec 32 := Scalar.addi c0_i32_81 v85
  let v89 : Index := Scalar.indexCast v86
  let c1_87 : Index := 1#32
  let c0_88 : Index := 0#32
  let c0_89 : Index := 0#32
  ![v89.toNat, 1, 0, 0]
def k0_off29 (i : grid0.Coords) : Fin 5 → Nat :=
  let arg0 : BitVec 32 := BitVec.ofNat 32 (i 0).val
  let c2_i32 : BitVec 32 := 2#32
  let v0 : BitVec 32 := Scalar.remsi arg0 c2_i32
  let v93 : Index := Scalar.indexCast v0
  let c0_90 : Index := 0#32
  let c6 : Index := 6#32
  let c0_91 : Index := 0#32
  let c0_92 : Index := 0#32
  ![v93.toNat, 0, 6, 0, 0]
def k0_off30 (i : grid0.Coords) : Fin 5 → Nat :=
  let arg0 : BitVec 32 := BitVec.ofNat 32 (i 0).val
  let c2_i32 : BitVec 32 := 2#32
  let v0 : BitVec 32 := Scalar.remsi arg0 c2_i32
  let v96 : Index := Scalar.indexCast v0
  let c6_93 : Index := 6#32
  let c0_94 : Index := 0#32
  let c0_95 : Index := 0#32
  let c0_96 : Index := 0#32
  ![v96.toNat, 6, 0, 0, 0]
def k0_off31 (i : grid0.Coords) : Fin 5 → Nat :=
  let c1_i32_100 : BitVec 32 := 1#32
  let arg0 : BitVec 32 := BitVec.ofNat 32 (i 0).val
  let c0_i32_99 : BitVec 32 := 0#32
  let v103 : BitVec 32 := Scalar.minsi arg0 c0_i32_99
  let v104 : BitVec 32 := Scalar.addi c1_i32_100 v103
  let v105 : Index := Scalar.indexCast v104
  let c0_101 : Index := 0#32
  let c6_102 : Index := 6#32
  let c0_103 : Index := 0#32
  let c0_104 : Index := 0#32
  ![v105.toNat, 0, 6, 0, 0]
def k0_off32 (i : grid0.Coords) : Fin 5 → Nat :=
  let c1_i32_107 : BitVec 32 := 1#32
  let arg0 : BitVec 32 := BitVec.ofNat 32 (i 0).val
  let c0_i32_106 : BitVec 32 := 0#32
  let v111 : BitVec 32 := Scalar.minsi arg0 c0_i32_106
  let v112 : BitVec 32 := Scalar.addi c1_i32_107 v111
  let v113 : Index := Scalar.indexCast v112
  let c0_108 : Index := 0#32
  let c7 : Index := 7#32
  let c0_109 : Index := 0#32
  let c0_110 : Index := 0#32
  ![v113.toNat, 0, 7, 0, 0]
def k0_off33 (i : grid0.Coords) : Fin 5 → Nat :=
  let arg0 : BitVec 32 := BitVec.ofNat 32 (i 0).val
  let c2_i32 : BitVec 32 := 2#32
  let v0 : BitVec 32 := Scalar.remsi arg0 c2_i32
  let v120 : Index := Scalar.indexCast v0
  let c7_111 : Index := 7#32
  let c0_112 : Index := 0#32
  let c0_113 : Index := 0#32
  let c0_114 : Index := 0#32
  ![v120.toNat, 7, 0, 0, 0]
def k0_off34 (i : grid0.Coords) : Fin 5 → Nat :=
  let arg0 : BitVec 32 := BitVec.ofNat 32 (i 0).val
  let c2_i32 : BitVec 32 := 2#32
  let v0 : BitVec 32 := Scalar.remsi arg0 c2_i32
  let v132 : Index := Scalar.indexCast v0
  let c1_126 : Index := 1#32
  let c6_127 : Index := 6#32
  let c0_128 : Index := 0#32
  let c0_129 : Index := 0#32
  ![v132.toNat, 1, 6, 0, 0]
def k0_off35 (i : grid0.Coords) : Fin 5 → Nat :=
  let arg0 : BitVec 32 := BitVec.ofNat 32 (i 0).val
  let c2_i32 : BitVec 32 := 2#32
  let v0 : BitVec 32 := Scalar.remsi arg0 c2_i32
  let v135 : Index := Scalar.indexCast v0
  let c6_130 : Index := 6#32
  let c1_131 : Index := 1#32
  let c0_132 : Index := 0#32
  let c0_133 : Index := 0#32
  ![v135.toNat, 6, 1, 0, 0]
def k0_off36 (i : grid0.Coords) : Fin 5 → Nat :=
  let c1_i32_137 : BitVec 32 := 1#32
  let arg0 : BitVec 32 := BitVec.ofNat 32 (i 0).val
  let c0_i32_136 : BitVec 32 := 0#32
  let v142 : BitVec 32 := Scalar.minsi arg0 c0_i32_136
  let v143 : BitVec 32 := Scalar.addi c1_i32_137 v142
  let v144 : Index := Scalar.indexCast v143
  let c1_138 : Index := 1#32
  let c6_139 : Index := 6#32
  let c0_140 : Index := 0#32
  let c0_141 : Index := 0#32
  ![v144.toNat, 1, 6, 0, 0]
def k0_off37 (i : grid0.Coords) : Fin 5 → Nat :=
  let c1_i32_144 : BitVec 32 := 1#32
  let arg0 : BitVec 32 := BitVec.ofNat 32 (i 0).val
  let c0_i32_143 : BitVec 32 := 0#32
  let v150 : BitVec 32 := Scalar.minsi arg0 c0_i32_143
  let v151 : BitVec 32 := Scalar.addi c1_i32_144 v150
  let v152 : Index := Scalar.indexCast v151
  let c1_145 : Index := 1#32
  let c7_146 : Index := 7#32
  let c0_147 : Index := 0#32
  let c0_148 : Index := 0#32
  ![v152.toNat, 1, 7, 0, 0]
def k0_off38 (i : grid0.Coords) : Fin 5 → Nat :=
  let arg0 : BitVec 32 := BitVec.ofNat 32 (i 0).val
  let c2_i32 : BitVec 32 := 2#32
  let v0 : BitVec 32 := Scalar.remsi arg0 c2_i32
  let v159 : Index := Scalar.indexCast v0
  let c7_149 : Index := 7#32
  let c1_150 : Index := 1#32
  let c0_151 : Index := 0#32
  let c0_152 : Index := 0#32
  ![v159.toNat, 7, 1, 0, 0]
def k0_off39 (i : grid0.Coords) : Fin 5 → Nat :=
  let arg0 : BitVec 32 := BitVec.ofNat 32 (i 0).val
  let c2_i32 : BitVec 32 := 2#32
  let v0 : BitVec 32 := Scalar.remsi arg0 c2_i32
  let v171 : Index := Scalar.indexCast v0
  let c0_164 : Index := 0#32
  let c0_165 : Index := 0#32
  let c0_166 : Index := 0#32
  let c0_167 : Index := 0#32
  ![v171.toNat, 0, 0, 0, 0]
def k0_off40 (i : grid0.Coords) : Fin 5 → Nat :=
  let arg0 : BitVec 32 := BitVec.ofNat 32 (i 0).val
  let c2_i32 : BitVec 32 := 2#32
  let v0 : BitVec 32 := Scalar.remsi arg0 c2_i32
  let v214 : Index := Scalar.indexCast v0
  let c1_209 : Index := 1#32
  let c0_210 : Index := 0#32
  let c0_211 : Index := 0#32
  let c0_212 : Index := 0#32
  ![v214.toNat, 1, 0, 0, 0]
def k0_off41 (i : grid0.Coords) : Fin 5 → Nat :=
  let arg0 : BitVec 32 := BitVec.ofNat 32 (i 0).val
  let c2_i32 : BitVec 32 := 2#32
  let v0 : BitVec 32 := Scalar.remsi arg0 c2_i32
  let v282 : Index := Scalar.indexCast v0
  let c1_276 : Index := 1#32
  let c0_277 : Index := 0#32
  let c0_278 : Index := 0#32
  let c0_279 : Index := 0#32
  ![v282.toNat, 1, 0, 0, 0]
def k0_off42 (i : grid0.Coords) : Fin 5 → Nat :=
  let arg0 : BitVec 32 := BitVec.ofNat 32 (i 0).val
  let c2_i32 : BitVec 32 := 2#32
  let v0 : BitVec 32 := Scalar.remsi arg0 c2_i32
  let v325 : Index := Scalar.indexCast v0
  let c1_321 : Index := 1#32
  let c1_322 : Index := 1#32
  let c0_323 : Index := 0#32
  let c0_324 : Index := 0#32
  ![v325.toNat, 1, 1, 0, 0]
def k0_off43 (i : grid0.Coords) (c1_i32_361 : BitVec 32) : Fin 5 → Nat :=
  let arg0 : BitVec 32 := BitVec.ofNat 32 (i 0).val
  let c0_i32_360 : BitVec 32 := 0#32
  let v359 : BitVec 32 := Scalar.minsi arg0 c0_i32_360
  let v360 : BitVec 32 := Scalar.addi c1_i32_361 v359
  let v361 : Index := Scalar.indexCast v360
  let c0_362 : Index := 0#32
  let c2 : Index := 2#32
  let c0_363 : Index := 0#32
  let c0_364 : Index := 0#32
  ![v361.toNat, 0, 2, 0, 0]
def k0_off44 (i : grid0.Coords) : Fin 5 → Nat :=
  let arg0 : BitVec 32 := BitVec.ofNat 32 (i 0).val
  let c2_i32 : BitVec 32 := 2#32
  let v0 : BitVec 32 := Scalar.remsi arg0 c2_i32
  let v368 : Index := Scalar.indexCast v0
  let c2_365 : Index := 2#32
  let c0_366 : Index := 0#32
  let c0_367 : Index := 0#32
  let c0_368 : Index := 0#32
  ![v368.toNat, 2, 0, 0, 0]
def k0_off45 (i : grid0.Coords) (c1_i32_405 : BitVec 32) : Fin 5 → Nat :=
  let arg0 : BitVec 32 := BitVec.ofNat 32 (i 0).val
  let c0_i32_404 : BitVec 32 := 0#32
  let v402 : BitVec 32 := Scalar.minsi arg0 c0_i32_404
  let v403 : BitVec 32 := Scalar.addi c1_i32_405 v402
  let v404 : Index := Scalar.indexCast v403
  let c1_406 : Index := 1#32
  let c2_407 : Index := 2#32
  let c0_408 : Index := 0#32
  let c0_409 : Index := 0#32
  ![v404.toNat, 1, 2, 0, 0]
def k0_off46 (i : grid0.Coords) : Fin 5 → Nat :=
  let arg0 : BitVec 32 := BitVec.ofNat 32 (i 0).val
  let c2_i32 : BitVec 32 := 2#32
  let v0 : BitVec 32 := Scalar.remsi arg0 c2_i32
  let v411 : Index := Scalar.indexCast v0
  let c2_410 : Index := 2#32
  let c1_411 : Index := 1#32
  let c0_412 : Index := 0#32
  let c0_413 : Index := 0#32
  ![v411.toNat, 2, 1, 0, 0]
def k0_off47 (i : grid0.Coords) : Fin 5 → Nat :=
  let arg0 : BitVec 32 := BitVec.ofNat 32 (i 0).val
  let c2_i32 : BitVec 32 := 2#32
  let v0 : BitVec 32 := Scalar.remsi arg0 c2_i32
  let v429 : Index := Scalar.indexCast v0
  let c0_433 : Index := 0#32
  let c2_434 : Index := 2#32
  let c0_435 : Index := 0#32
  let c0_436 : Index := 0#32
  ![v429.toNat, 0, 2, 0, 0]
def k0_off48 (i : grid0.Coords) (c1_i32_450 : BitVec 32) : Fin 5 → Nat :=
  let arg0 : BitVec 32 := BitVec.ofNat 32 (i 0).val
  let c0_i32_449 : BitVec 32 := 0#32
  let v445 : BitVec 32 := Scalar.minsi arg0 c0_i32_449
  let v446 : BitVec 32 := Scalar.addi c1_i32_450 v445
  let v447 : Index := Scalar.indexCast v446
  let c0_451 : Index := 0#32
  let c3 : Index := 3#32
  let c0_452 : Index := 0#32
  let c0_453 : Index := 0#32
  ![v447.toNat, 0, 3, 0, 0]
def k0_off49 (i : grid0.Coords) : Fin 5 → Nat :=
  let arg0 : BitVec 32 := BitVec.ofNat 32 (i 0).val
  let c2_i32 : BitVec 32 := 2#32
  let v0 : BitVec 32 := Scalar.remsi arg0 c2_i32
  let v454 : Index := Scalar.indexCast v0
  let c3_454 : Index := 3#32
  let c0_455 : Index := 0#32
  let c0_456 : Index := 0#32
  let c0_457 : Index := 0#32
  ![v454.toNat, 3, 0, 0, 0]
def k0_off50 (i : grid0.Coords) : Fin 5 → Nat :=
  let arg0 : BitVec 32 := BitVec.ofNat 32 (i 0).val
  let c2_i32 : BitVec 32 := 2#32
  let v0 : BitVec 32 := Scalar.remsi arg0 c2_i32
  let v472 : Index := Scalar.indexCast v0
  let c1_477 : Index := 1#32
  let c2_478 : Index := 2#32
  let c0_479 : Index := 0#32
  let c0_480 : Index := 0#32
  ![v472.toNat, 1, 2, 0, 0]
def k0_off51 (i : grid0.Coords) (c1_i32_494 : BitVec 32) : Fin 5 → Nat :=
  let arg0 : BitVec 32 := BitVec.ofNat 32 (i 0).val
  let c0_i32_493 : BitVec 32 := 0#32
  let v488 : BitVec 32 := Scalar.minsi arg0 c0_i32_493
  let v489 : BitVec 32 := Scalar.addi c1_i32_494 v488
  let v490 : Index := Scalar.indexCast v489
  let c1_495 : Index := 1#32
  let c3_496 : Index := 3#32
  let c0_497 : Index := 0#32
  let c0_498 : Index := 0#32
  ![v490.toNat, 1, 3, 0, 0]
def k0_off52 (i : grid0.Coords) : Fin 5 → Nat :=
  let arg0 : BitVec 32 := BitVec.ofNat 32 (i 0).val
  let c2_i32 : BitVec 32 := 2#32
  let v0 : BitVec 32 := Scalar.remsi arg0 c2_i32
  let v497 : Index := Scalar.indexCast v0
  let c3_499 : Index := 3#32
  let c1_500 : Index := 1#32
  let c0_501 : Index := 0#32
  let c0_502 : Index := 0#32
  ![v497.toNat, 3, 1, 0, 0]
def k0_off53 (i : grid0.Coords) : Fin 5 → Nat :=
  let arg0 : BitVec 32 := BitVec.ofNat 32 (i 0).val
  let c2_i32 : BitVec 32 := 2#32
  let v0 : BitVec 32 := Scalar.remsi arg0 c2_i32
  let v515 : Index := Scalar.indexCast v0
  let c0_522 : Index := 0#32
  let c3_523 : Index := 3#32
  let c0_524 : Index := 0#32
  let c0_525 : Index := 0#32
  ![v515.toNat, 0, 3, 0, 0]
def k0_off54 (i : grid0.Coords) : Fin 5 → Nat :=
  let c1_i32_539 : BitVec 32 := 1#32
  let arg0 : BitVec 32 := BitVec.ofNat 32 (i 0).val
  let c0_i32_538 : BitVec 32 := 0#32
  let v531 : BitVec 32 := Scalar.minsi arg0 c0_i32_538
  let v532 : BitVec 32 := Scalar.addi c1_i32_539 v531
  let v533 : Index := Scalar.indexCast v532
  let c0_540 : Index := 0#32
  let c4 : Index := 4#32
  let c0_541 : Index := 0#32
  let c0_542 : Index := 0#32
  ![v533.toNat, 0, 4, 0, 0]
def k0_off55 (i : grid0.Coords) : Fin 5 → Nat :=
  let arg0 : BitVec 32 := BitVec.ofNat 32 (i 0).val
  let c2_i32 : BitVec 32 := 2#32
  let v0 : BitVec 32 := Scalar.remsi arg0 c2_i32
  let v540 : Index := Scalar.indexCast v0
  let c4_543 : Index := 4#32
  let c0_544 : Index := 0#32
  let c0_545 : Index := 0#32
  let c0_546 : Index := 0#32
  ![v540.toNat, 4, 0, 0, 0]
def k0_off56 (i : grid0.Coords) : Fin 5 → Nat :=
  let arg0 : BitVec 32 := BitVec.ofNat 32 (i 0).val
  let c2_i32 : BitVec 32 := 2#32
  let v0 : BitVec 32 := Scalar.remsi arg0 c2_i32
  let v558 : Index := Scalar.indexCast v0
  let c1_566 : Index := 1#32
  let c3_567 : Index := 3#32
  let c0_568 : Index := 0#32
  let c0_569 : Index := 0#32
  ![v558.toNat, 1, 3, 0, 0]
def k0_off57 (i : grid0.Coords) : Fin 5 → Nat :=
  let c1_i32_583 : BitVec 32 := 1#32
  let arg0 : BitVec 32 := BitVec.ofNat 32 (i 0).val
  let c0_i32_582 : BitVec 32 := 0#32
  let v574 : BitVec 32 := Scalar.minsi arg0 c0_i32_582
  let v575 : BitVec 32 := Scalar.addi c1_i32_583 v574
  let v576 : Index := Scalar.indexCast v575
  let c1_584 : Index := 1#32
  let c4_585 : Index := 4#32
  let c0_586 : Index := 0#32
  let c0_587 : Index := 0#32
  ![v576.toNat, 1, 4, 0, 0]
def k0_off58 (i : grid0.Coords) : Fin 5 → Nat :=
  let arg0 : BitVec 32 := BitVec.ofNat 32 (i 0).val
  let c2_i32 : BitVec 32 := 2#32
  let v0 : BitVec 32 := Scalar.remsi arg0 c2_i32
  let v583 : Index := Scalar.indexCast v0
  let c4_588 : Index := 4#32
  let c1_589 : Index := 1#32
  let c0_590 : Index := 0#32
  let c0_591 : Index := 0#32
  ![v583.toNat, 4, 1, 0, 0]
def k0_off59 (i : grid0.Coords) : Fin 5 → Nat :=
  let arg0 : BitVec 32 := BitVec.ofNat 32 (i 0).val
  let c2_i32 : BitVec 32 := 2#32
  let v0 : BitVec 32 := Scalar.remsi arg0 c2_i32
  let v601 : Index := Scalar.indexCast v0
  let c0_611 : Index := 0#32
  let c4_612 : Index := 4#32
  let c0_613 : Index := 0#32
  let c0_614 : Index := 0#32
  ![v601.toNat, 0, 4, 0, 0]
def k0_off60 (i : grid0.Coords) : Fin 5 → Nat :=
  let c1_i32_628 : BitVec 32 := 1#32
  let arg0 : BitVec 32 := BitVec.ofNat 32 (i 0).val
  let c0_i32_627 : BitVec 32 := 0#32
  let v617 : BitVec 32 := Scalar.minsi arg0 c0_i32_627
  let v618 : BitVec 32 := Scalar.addi c1_i32_628 v617
  let v619 : Index := Scalar.indexCast v618
  let c0_629 : Index := 0#32
  let c5 : Index := 5#32
  let c0_630 : Index := 0#32
  let c0_631 : Index := 0#32
  ![v619.toNat, 0, 5, 0, 0]
def k0_off61 (i : grid0.Coords) : Fin 5 → Nat :=
  let arg0 : BitVec 32 := BitVec.ofNat 32 (i 0).val
  let c2_i32 : BitVec 32 := 2#32
  let v0 : BitVec 32 := Scalar.remsi arg0 c2_i32
  let v626 : Index := Scalar.indexCast v0
  let c5_632 : Index := 5#32
  let c0_633 : Index := 0#32
  let c0_634 : Index := 0#32
  let c0_635 : Index := 0#32
  ![v626.toNat, 5, 0, 0, 0]
def k0_off62 (i : grid0.Coords) : Fin 5 → Nat :=
  let arg0 : BitVec 32 := BitVec.ofNat 32 (i 0).val
  let c2_i32 : BitVec 32 := 2#32
  let v0 : BitVec 32 := Scalar.remsi arg0 c2_i32
  let v644 : Index := Scalar.indexCast v0
  let c1_655 : Index := 1#32
  let c4_656 : Index := 4#32
  let c0_657 : Index := 0#32
  let c0_658 : Index := 0#32
  ![v644.toNat, 1, 4, 0, 0]
def k0_off63 (i : grid0.Coords) : Fin 5 → Nat :=
  let c1_i32_672 : BitVec 32 := 1#32
  let arg0 : BitVec 32 := BitVec.ofNat 32 (i 0).val
  let c0_i32_671 : BitVec 32 := 0#32
  let v660 : BitVec 32 := Scalar.minsi arg0 c0_i32_671
  let v661 : BitVec 32 := Scalar.addi c1_i32_672 v660
  let v662 : Index := Scalar.indexCast v661
  let c1_673 : Index := 1#32
  let c5_674 : Index := 5#32
  let c0_675 : Index := 0#32
  let c0_676 : Index := 0#32
  ![v662.toNat, 1, 5, 0, 0]
def k0_off64 (i : grid0.Coords) : Fin 5 → Nat :=
  let arg0 : BitVec 32 := BitVec.ofNat 32 (i 0).val
  let c2_i32 : BitVec 32 := 2#32
  let v0 : BitVec 32 := Scalar.remsi arg0 c2_i32
  let v669 : Index := Scalar.indexCast v0
  let c5_677 : Index := 5#32
  let c1_678 : Index := 1#32
  let c0_679 : Index := 0#32
  let c0_680 : Index := 0#32
  ![v669.toNat, 5, 1, 0, 0]
def k0_off65 (i : grid0.Coords) : Fin 5 → Nat :=
  let arg0 : BitVec 32 := BitVec.ofNat 32 (i 0).val
  let c2_i32 : BitVec 32 := 2#32
  let v0 : BitVec 32 := Scalar.remsi arg0 c2_i32
  let v687 : Index := Scalar.indexCast v0
  let c0_700 : Index := 0#32
  let c5_701 : Index := 5#32
  let c0_702 : Index := 0#32
  let c0_703 : Index := 0#32
  ![v687.toNat, 0, 5, 0, 0]
def k0_off66 (i : grid0.Coords) : Fin 5 → Nat :=
  let arg0 : BitVec 32 := BitVec.ofNat 32 (i 0).val
  let c2_i32 : BitVec 32 := 2#32
  let v0 : BitVec 32 := Scalar.remsi arg0 c2_i32
  let v712 : Index := Scalar.indexCast v0
  let c6_722 : Index := 6#32
  let c0_723 : Index := 0#32
  let c0_724 : Index := 0#32
  let c0_725 : Index := 0#32
  ![v712.toNat, 6, 0, 0, 0]
def k0_off67 (i : grid0.Coords) : Fin 5 → Nat :=
  let arg0 : BitVec 32 := BitVec.ofNat 32 (i 0).val
  let c2_i32 : BitVec 32 := 2#32
  let v0 : BitVec 32 := Scalar.remsi arg0 c2_i32
  let v730 : Index := Scalar.indexCast v0
  let c1_745 : Index := 1#32
  let c5_746 : Index := 5#32
  let c0_747 : Index := 0#32
  let c0_748 : Index := 0#32
  ![v730.toNat, 1, 5, 0, 0]
def k0_off68 (i : grid0.Coords) : Fin 5 → Nat :=
  let arg0 : BitVec 32 := BitVec.ofNat 32 (i 0).val
  let c2_i32 : BitVec 32 := 2#32
  let v0 : BitVec 32 := Scalar.remsi arg0 c2_i32
  let v755 : Index := Scalar.indexCast v0
  let c6_767 : Index := 6#32
  let c1_768 : Index := 1#32
  let c0_769 : Index := 0#32
  let c0_770 : Index := 0#32
  ![v755.toNat, 6, 1, 0, 0]
def k0_off69 (i : grid0.Coords) : Fin 5 → Nat :=
  let arg0 : BitVec 32 := BitVec.ofNat 32 (i 0).val
  let c2_i32 : BitVec 32 := 2#32
  let v0 : BitVec 32 := Scalar.remsi arg0 c2_i32
  let v844 : Index := Scalar.indexCast v0
  let c2_847 : Index := 2#32
  let c0_848 : Index := 0#32
  let c0_849 : Index := 0#32
  let c0_850 : Index := 0#32
  ![v844.toNat, 2, 0, 0, 0]
def k0_off70 (i : grid0.Coords) : Fin 5 → Nat :=
  let arg0 : BitVec 32 := BitVec.ofNat 32 (i 0).val
  let c2_i32 : BitVec 32 := 2#32
  let v0 : BitVec 32 := Scalar.remsi arg0 c2_i32
  let v883 : Index := Scalar.indexCast v0
  let c2_885 : Index := 2#32
  let c1_886 : Index := 1#32
  let c0_887 : Index := 0#32
  let c0_888 : Index := 0#32
  ![v883.toNat, 2, 1, 0, 0]
def k0_off71 (i : grid0.Coords) : Fin 5 → Nat :=
  let arg0 : BitVec 32 := BitVec.ofNat 32 (i 0).val
  let c2_i32 : BitVec 32 := 2#32
  let v0 : BitVec 32 := Scalar.remsi arg0 c2_i32
  let v922 : Index := Scalar.indexCast v0
  let c5_923 : Index := 5#32
  let c0_924 : Index := 0#32
  let c0_925 : Index := 0#32
  let c0_926 : Index := 0#32
  ![v922.toNat, 5, 0, 0, 0]
def k0_off72 (i : grid0.Coords) : Fin 5 → Nat :=
  let arg0 : BitVec 32 := BitVec.ofNat 32 (i 0).val
  let c2_i32 : BitVec 32 := 2#32
  let v0 : BitVec 32 := Scalar.remsi arg0 c2_i32
  let v961 : Index := Scalar.indexCast v0
  let c5_961 : Index := 5#32
  let c1_962 : Index := 1#32
  let c0_963 : Index := 0#32
  let c0_964 : Index := 0#32
  ![v961.toNat, 5, 1, 0, 0]
def k0_off73 (i : grid0.Coords) : Fin 5 → Nat :=
  let arg0 : BitVec 32 := BitVec.ofNat 32 (i 0).val
  let c2_i32 : BitVec 32 := 2#32
  let v0 : BitVec 32 := Scalar.remsi arg0 c2_i32
  let v1670 : Index := Scalar.indexCast v0
  let c3_1681 : Index := 3#32
  let c0_1682 : Index := 0#32
  let c0_1683 : Index := 0#32
  let c0_1684 : Index := 0#32
  ![v1670.toNat, 3, 0, 0, 0]
def k0_off74 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1735 : Index := Scalar.indexCast v1
  let c0_1728 : Index := 0#32
  let c0_1729 : Index := 0#32
  let c0_1730 : Index := 0#32
  let c0_1731 : Index := 0#32
  ![v1735.toNat, 0, 0, 0, 0]
def k0_off75 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1742 : Index := Scalar.indexCast v1
  let c0_1732 : Index := 0#32
  let c0_1733 : Index := 0#32
  let c0_1734 : Index := 0#32
  let c0_1735 : Index := 0#32
  ![v1742.toNat, 0, 0, 0, 0]
def k0_off76 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1758 : Index := Scalar.indexCast v1
  let c1_1740 : Index := 1#32
  let c0_1741 : Index := 0#32
  let c0_1742 : Index := 0#32
  let c0_1743 : Index := 0#32
  ![v1758.toNat, 1, 0, 0, 0]
def k0_off77 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1765 : Index := Scalar.indexCast v1
  let c0_1744 : Index := 0#32
  let c1_1745 : Index := 1#32
  let c0_1746 : Index := 0#32
  let c0_1747 : Index := 0#32
  ![v1765.toNat, 0, 1, 0, 0]
def k0_off78 (i : grid0.Coords) : Fin 5 → Nat :=
  let arg0 : BitVec 32 := BitVec.ofNat 32 (i 0).val
  let c2_i32 : BitVec 32 := 2#32
  let v0 : BitVec 32 := Scalar.remsi arg0 c2_i32
  let v1772 : Index := Scalar.indexCast v0
  let c3_1752 : Index := 3#32
  let c1_1753 : Index := 1#32
  let c0_1754 : Index := 0#32
  let c0_1755 : Index := 0#32
  ![v1772.toNat, 3, 1, 0, 0]
def k0_off79 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1837 : Index := Scalar.indexCast v1
  let c0_1799 : Index := 0#32
  let c1_1800 : Index := 1#32
  let c0_1801 : Index := 0#32
  let c0_1802 : Index := 0#32
  ![v1837.toNat, 0, 1, 0, 0]
def k0_off80 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1844 : Index := Scalar.indexCast v1
  let c1_1803 : Index := 1#32
  let c0_1804 : Index := 0#32
  let c0_1805 : Index := 0#32
  let c0_1806 : Index := 0#32
  ![v1844.toNat, 1, 0, 0, 0]
def k0_off81 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1860 : Index := Scalar.indexCast v1
  let c1_1812 : Index := 1#32
  let c1_1813 : Index := 1#32
  let c0_1814 : Index := 0#32
  let c0_1815 : Index := 0#32
  ![v1860.toNat, 1, 1, 0, 0]
def k0_off82 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1867 : Index := Scalar.indexCast v1
  let c1_1816 : Index := 1#32
  let c1_1817 : Index := 1#32
  let c0_1818 : Index := 0#32
  let c0_1819 : Index := 0#32
  ![v1867.toNat, 1, 1, 0, 0]
def k0_off83 (i : grid0.Coords) : Fin 5 → Nat :=
  let arg0 : BitVec 32 := BitVec.ofNat 32 (i 0).val
  let c2_i32 : BitVec 32 := 2#32
  let v0 : BitVec 32 := Scalar.remsi arg0 c2_i32
  let v1874 : Index := Scalar.indexCast v0
  let c4_1824 : Index := 4#32
  let c0_1825 : Index := 0#32
  let c0_1826 : Index := 0#32
  let c0_1827 : Index := 0#32
  ![v1874.toNat, 4, 0, 0, 0]
def k0_off84 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1939 : Index := Scalar.indexCast v1
  let c0_1870 : Index := 0#32
  let c2_1871 : Index := 2#32
  let c0_1872 : Index := 0#32
  let c0_1873 : Index := 0#32
  ![v1939.toNat, 0, 2, 0, 0]
def k0_off85 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1946 : Index := Scalar.indexCast v1
  let c2_1874 : Index := 2#32
  let c0_1875 : Index := 0#32
  let c0_1876 : Index := 0#32
  let c0_1877 : Index := 0#32
  ![v1946.toNat, 2, 0, 0, 0]
def k0_off86 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1962 : Index := Scalar.indexCast v1
  let c1_1883 : Index := 1#32
  let c2_1884 : Index := 2#32
  let c0_1885 : Index := 0#32
  let c0_1886 : Index := 0#32
  ![v1962.toNat, 1, 2, 0, 0]
def k0_off87 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1969 : Index := Scalar.indexCast v1
  let c2_1887 : Index := 2#32
  let c1_1888 : Index := 1#32
  let c0_1889 : Index := 0#32
  let c0_1890 : Index := 0#32
  ![v1969.toNat, 2, 1, 0, 0]
def k0_off88 (i : grid0.Coords) : Fin 5 → Nat :=
  let arg0 : BitVec 32 := BitVec.ofNat 32 (i 0).val
  let c2_i32 : BitVec 32 := 2#32
  let v0 : BitVec 32 := Scalar.remsi arg0 c2_i32
  let v1976 : Index := Scalar.indexCast v0
  let c4_1895 : Index := 4#32
  let c1_1896 : Index := 1#32
  let c0_1897 : Index := 0#32
  let c0_1898 : Index := 0#32
  ![v1976.toNat, 4, 1, 0, 0]
def k0_off89 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2041 : Index := Scalar.indexCast v1
  let c0_1941 : Index := 0#32
  let c3_1942 : Index := 3#32
  let c0_1943 : Index := 0#32
  let c0_1944 : Index := 0#32
  ![v2041.toNat, 0, 3, 0, 0]
def k0_off90 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2048 : Index := Scalar.indexCast v1
  let c3_1945 : Index := 3#32
  let c0_1946 : Index := 0#32
  let c0_1947 : Index := 0#32
  let c0_1948 : Index := 0#32
  ![v2048.toNat, 3, 0, 0, 0]
def k0_off91 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2064 : Index := Scalar.indexCast v1
  let c1_1953 : Index := 1#32
  let c3_1954 : Index := 3#32
  let c0_1955 : Index := 0#32
  let c0_1956 : Index := 0#32
  ![v2064.toNat, 1, 3, 0, 0]
def k0_off92 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2071 : Index := Scalar.indexCast v1
  let c3_1957 : Index := 3#32
  let c1_1958 : Index := 1#32
  let c0_1959 : Index := 0#32
  let c0_1960 : Index := 0#32
  ![v2071.toNat, 3, 1, 0, 0]
def k0_off93 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2147 : Index := Scalar.indexCast v1
  let c0_2018 : Index := 0#32
  let c4_2019 : Index := 4#32
  let c0_2020 : Index := 0#32
  let c0_2021 : Index := 0#32
  ![v2147.toNat, 0, 4, 0, 0]
def k0_off94 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2154 : Index := Scalar.indexCast v1
  let c4_2022 : Index := 4#32
  let c0_2023 : Index := 0#32
  let c0_2024 : Index := 0#32
  let c0_2025 : Index := 0#32
  ![v2154.toNat, 4, 0, 0, 0]
def k0_off95 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2170 : Index := Scalar.indexCast v1
  let c1_2030 : Index := 1#32
  let c4_2031 : Index := 4#32
  let c0_2032 : Index := 0#32
  let c0_2033 : Index := 0#32
  ![v2170.toNat, 1, 4, 0, 0]
def k0_off96 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2177 : Index := Scalar.indexCast v1
  let c4_2034 : Index := 4#32
  let c1_2035 : Index := 1#32
  let c0_2036 : Index := 0#32
  let c0_2037 : Index := 0#32
  ![v2177.toNat, 4, 1, 0, 0]
def k0_off97 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2253 : Index := Scalar.indexCast v1
  let c0_2095 : Index := 0#32
  let c5_2096 : Index := 5#32
  let c0_2097 : Index := 0#32
  let c0_2098 : Index := 0#32
  ![v2253.toNat, 0, 5, 0, 0]
def k0_off98 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2260 : Index := Scalar.indexCast v1
  let c5_2099 : Index := 5#32
  let c0_2100 : Index := 0#32
  let c0_2101 : Index := 0#32
  let c0_2102 : Index := 0#32
  ![v2260.toNat, 5, 0, 0, 0]
def k0_off99 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2276 : Index := Scalar.indexCast v1
  let c1_2107 : Index := 1#32
  let c5_2108 : Index := 5#32
  let c0_2109 : Index := 0#32
  let c0_2110 : Index := 0#32
  ![v2276.toNat, 1, 5, 0, 0]
def k0_off100 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2283 : Index := Scalar.indexCast v1
  let c5_2111 : Index := 5#32
  let c1_2112 : Index := 1#32
  let c0_2113 : Index := 0#32
  let c0_2114 : Index := 0#32
  ![v2283.toNat, 5, 1, 0, 0]
def k0_off101 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2359 : Index := Scalar.indexCast v1
  let c0_2173 : Index := 0#32
  let c6_2174 : Index := 6#32
  let c0_2175 : Index := 0#32
  let c0_2176 : Index := 0#32
  ![v2359.toNat, 0, 6, 0, 0]
def k0_off102 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2366 : Index := Scalar.indexCast v1
  let c6_2177 : Index := 6#32
  let c0_2178 : Index := 0#32
  let c0_2179 : Index := 0#32
  let c0_2180 : Index := 0#32
  ![v2366.toNat, 6, 0, 0, 0]
def k0_off103 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2382 : Index := Scalar.indexCast v1
  let c1_2185 : Index := 1#32
  let c6_2186 : Index := 6#32
  let c0_2187 : Index := 0#32
  let c0_2188 : Index := 0#32
  ![v2382.toNat, 1, 6, 0, 0]
def k0_off104 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2389 : Index := Scalar.indexCast v1
  let c6_2189 : Index := 6#32
  let c1_2190 : Index := 1#32
  let c0_2191 : Index := 0#32
  let c0_2192 : Index := 0#32
  ![v2389.toNat, 6, 1, 0, 0]
def k0_off105 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2465 : Index := Scalar.indexCast v1
  let c0_2251 : Index := 0#32
  let c7_2252 : Index := 7#32
  let c0_2253 : Index := 0#32
  let c0_2254 : Index := 0#32
  ![v2465.toNat, 0, 7, 0, 0]
def k0_off106 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2472 : Index := Scalar.indexCast v1
  let c7_2255 : Index := 7#32
  let c0_2256 : Index := 0#32
  let c0_2257 : Index := 0#32
  let c0_2258 : Index := 0#32
  ![v2472.toNat, 7, 0, 0, 0]
def k0_off107 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2488 : Index := Scalar.indexCast v1
  let c1_2263 : Index := 1#32
  let c7_2264 : Index := 7#32
  let c0_2265 : Index := 0#32
  let c0_2266 : Index := 0#32
  ![v2488.toNat, 1, 7, 0, 0]
def k0_off108 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2495 : Index := Scalar.indexCast v1
  let c7_2267 : Index := 7#32
  let c1_2268 : Index := 1#32
  let c0_2269 : Index := 0#32
  let c0_2270 : Index := 0#32
  ![v2495.toNat, 7, 1, 0, 0]
def k0_off109 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2660 : Index := Scalar.indexCast v1
  let c0_2337 : Index := 0#32
  let c0_2338 : Index := 0#32
  let c0_2339 : Index := 0#32
  let c0_2340 : Index := 0#32
  ![v2660.toNat, 0, 0, 0, 0]
def k0_off110 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2773 : Index := Scalar.indexCast v1
  let c0_2358 : Index := 0#32
  let c1_2359 : Index := 1#32
  let c0_2360 : Index := 0#32
  let c0_2361 : Index := 0#32
  ![v2773.toNat, 0, 1, 0, 0]
def k0_off111 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2936 : Index := Scalar.indexCast v1
  let c1_2428 : Index := 1#32
  let c0_2429 : Index := 0#32
  let c0_2430 : Index := 0#32
  let c0_2431 : Index := 0#32
  ![v2936.toNat, 1, 0, 0, 0]
def k0_off112 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3049 : Index := Scalar.indexCast v1
  let c1_2449 : Index := 1#32
  let c1_2450 : Index := 1#32
  let c0_2451 : Index := 0#32
  let c0_2452 : Index := 0#32
  ![v3049.toNat, 1, 1, 0, 0]
def k0_off113 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3212 : Index := Scalar.indexCast v1
  let c2_2519 : Index := 2#32
  let c0_2520 : Index := 0#32
  let c0_2521 : Index := 0#32
  let c0_2522 : Index := 0#32
  ![v3212.toNat, 2, 0, 0, 0]
def k0_off114 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3325 : Index := Scalar.indexCast v1
  let c2_2540 : Index := 2#32
  let c1_2541 : Index := 1#32
  let c0_2542 : Index := 0#32
  let c0_2543 : Index := 0#32
  ![v3325.toNat, 2, 1, 0, 0]
def k0_off115 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3488 : Index := Scalar.indexCast v1
  let c3_2610 : Index := 3#32
  let c0_2611 : Index := 0#32
  let c0_2612 : Index := 0#32
  let c0_2613 : Index := 0#32
  ![v3488.toNat, 3, 0, 0, 0]
def k0_off116 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3601 : Index := Scalar.indexCast v1
  let c3_2631 : Index := 3#32
  let c1_2632 : Index := 1#32
  let c0_2633 : Index := 0#32
  let c0_2634 : Index := 0#32
  ![v3601.toNat, 3, 1, 0, 0]
def k0_off117 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3764 : Index := Scalar.indexCast v1
  let c4_2701 : Index := 4#32
  let c0_2702 : Index := 0#32
  let c0_2703 : Index := 0#32
  let c0_2704 : Index := 0#32
  ![v3764.toNat, 4, 0, 0, 0]
def k0_off118 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3877 : Index := Scalar.indexCast v1
  let c4_2722 : Index := 4#32
  let c1_2723 : Index := 1#32
  let c0_2724 : Index := 0#32
  let c0_2725 : Index := 0#32
  ![v3877.toNat, 4, 1, 0, 0]
def k0_off119 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v4040 : Index := Scalar.indexCast v1
  let c5_2792 : Index := 5#32
  let c0_2793 : Index := 0#32
  let c0_2794 : Index := 0#32
  let c0_2795 : Index := 0#32
  ![v4040.toNat, 5, 0, 0, 0]
def k0_off120 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v4153 : Index := Scalar.indexCast v1
  let c5_2813 : Index := 5#32
  let c1_2814 : Index := 1#32
  let c0_2815 : Index := 0#32
  let c0_2816 : Index := 0#32
  ![v4153.toNat, 5, 1, 0, 0]
def k0_off121 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v4316 : Index := Scalar.indexCast v1
  let c6_2883 : Index := 6#32
  let c0_2884 : Index := 0#32
  let c0_2885 : Index := 0#32
  let c0_2886 : Index := 0#32
  ![v4316.toNat, 6, 0, 0, 0]
def k0_off122 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v4429 : Index := Scalar.indexCast v1
  let c6_2904 : Index := 6#32
  let c1_2905 : Index := 1#32
  let c0_2906 : Index := 0#32
  let c0_2907 : Index := 0#32
  ![v4429.toNat, 6, 1, 0, 0]
def k0_off123 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v4592 : Index := Scalar.indexCast v1
  let c7_2974 : Index := 7#32
  let c0_2975 : Index := 0#32
  let c0_2976 : Index := 0#32
  let c0_2977 : Index := 0#32
  ![v4592.toNat, 7, 0, 0, 0]
def k0_off124 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v4705 : Index := Scalar.indexCast v1
  let c7_2995 : Index := 7#32
  let c1_2996 : Index := 1#32
  let c0_2997 : Index := 0#32
  let c0_2998 : Index := 0#32
  ![v4705.toNat, 7, 1, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v18.toNat, c0_i32_11.toNat, v28.toNat]

def cc0_transform_4 (i : grid0.Coords) : Fin 3 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v18.toNat, c0_i32_11.toNat, v28.toNat]

def cc0_transform_5 (i : grid0.Coords) : Fin 3 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v18.toNat, c0_i32_11.toNat, v28.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .vmem S1x2048x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel3Ideal.lean ====
variable {F : FTy → Type} [FloatOps F] [Named F]
def κ : String → Option EReal := fun
  | "mask" => some ⊥
  | _ => none
-- ==== Proof.MobaRun.lean ====
/-
  Straight-line bodies over a fixed set of buffers, each held whole: `Runs R p s Φ` says that `p`, run with the buffers
  of `R` at the contents `s`, ends at a result and contents of which `Φ` holds. One rule for each operation that such
  a body uses, stated on the buffers' contents; nothing here knows the kernel.
-/
module

public import Idealize.ShloMosaic.Lib.Pipeline.ValueKit
public import Idealize.ShloMosaic.Lib.Writes
public import Idealize.ShloMosaic.Lib.Tactic
public import Idealize.ShloMosaic.Lib.SparseCore.Launch

@[expose] public section

noncomputable section

namespace Cert.Moba

open Idealize.ShloMosaic Idealize.ShloMosaic.TcCoe
open Idealize.SL Idealize.SL.RA Idealize.SL.BI
open scoped Idealize.SL.BI
open Idealize.ShloMosaic.Rounds
open Idealize.SL.BI.BIBase Idealize.SL.BI.Laws Idealize.SL.ProofMode Idealize.SL.Sem

variable {nD : Nat} {τ : Topo} {sig : RefSig} {Val : EltTy → Type} {Λ : Labels}

/-- The resources of a kernel's proof. -/
abbrev 𝓜 (nD : Nat) (τ : Topo) (sig : RefSig) (Val : EltTy → Type) := MT nD τ sig Unit Val ℕ (UR sig nD τ) ℕ

/-- Contents for every buffer that a core's TensorCore names. -/
abbrev St (nD : Nat) (τ : Topo) (sig : RefSig) (Val : EltTy → Type) (c : Dev nD) : Type :=
  (b : Ref sig .tc) → Buf Val ((c : Thread nD τ).loc b)

/-- The buffers of `R`, each held whole at its contents in `s`. -/
def Own (c : Dev nD) (R : Finset (Ref sig .tc)) (s : St nD τ sig Val c) : sProp (𝓜 nD τ sig Val) :=
  bigSep (M := 𝓜 nD τ sig Val) R fun b => ((c : Thread nD τ).loc b ↦{fullShare} s b)

/-- `p` run from `s` ends at some result and contents of which `Φ` holds. -/
def Runs (defs : Defs nD τ sig Val Λ) (𝒱 : Variants) (c : Dev nD) (E : Set ℕ) (R : Finset (Ref sig .tc)) {α : Type}
    (p : Prog (TpuEff nD τ sig Val Λ .tc) α) (s : St nD τ sig Val c) (Φ : α → St nD τ sig Val c → Prop) : Prop :=
  ∀ Q : α → sProp (𝓜 nD τ sig Val), (∀ a s', Φ a s' → Own c R s' ⊢ Q a) →
    Own c R s ⊢ wp frame (wpE defs 𝒱 (c : Thread nD τ) none) E p Q

variable {defs : Defs nD τ sig Val Λ} {𝒱 : Variants} {c : Dev nD} {E : Set ℕ} {R : Finset (Ref sig .tc)} {α β : Type}
  {s : St nD τ sig Val c}

theorem runs_pure {a : α} {Φ : α → St nD τ sig Val c → Prop} (h : Φ a s) :
    Runs defs 𝒱 c E R (pure a) s Φ := fun Q hQ => by
  show _ ⊢ wp _ _ _ (Prog.ret a) Q
  rw [wp_ret]
  exact (hQ a s h).trans (by iintro H; imodintro; iexact H)

theorem runs_bind {p : Prog (TpuEff nD τ sig Val Λ .tc) α} {k : α → Prog (TpuEff nD τ sig Val Λ .tc) β}
    {Φ : β → St nD τ sig Val c → Prop}
    (h : Runs defs 𝒱 c E R p s fun a s' => Runs defs 𝒱 c E R (k a) s' Φ) :
    Runs defs 𝒱 c E R (p >>= k) s Φ := fun Q hQ => by
  rw [wp_bind]
  exact h _ fun a s' h' => h' Q hQ

theorem runs_mono {p : Prog (TpuEff nD τ sig Val Λ .tc) α} {Φ Ψ : α → St nD τ sig Val c → Prop}
    (h : Runs defs 𝒱 c E R p s Φ) (hΨ : ∀ a s', Φ a s' → Ψ a s') :
    Runs defs 𝒱 c E R p s Ψ := fun Q hQ => h Q fun a s' h' => hQ a s' (hΨ a s' h')

theorem own_take {b : Ref sig .tc} (hb : b ∈ R) :
    Own c R s = iprop((((c : Thread nD τ).loc b) ↦{fullShare} s b) ∗ Own c (R.erase b) s) :=
  BI.bigSep_erase hb

theorem own_put {b : Ref sig .tc} (hb : b ∈ R) (f : Buf Val ((c : Thread nD τ).loc b)) :
    Own c R (Function.update s b f)
      = iprop((((c : Thread nD τ).loc b) ↦{fullShare} f) ∗ Own c (R.erase b) s) := by
  rw [own_take hb, Function.update_self]
  congr 1
  exact BI.bigSep_congr fun b' hb' => by rw [Function.update_of_ne (Finset.ne_of_mem_erase hb')]

theorem runs_load {cs : CoreSpace} {sh : Shape} {e : EltTy} {m : Memref sig .tc cs sh e} {r : LoadRect sh}
    {hl : m.view.LoadsAt r} {Φ : (r.shape.Idx → Val e) → St nD τ sig Val c → Prop} (hm : m.view.ref ∈ R)
    (h : Φ (m.view.readAt Val r (s m.view.ref)) s) :
    Runs defs 𝒱 c E R (Prog.lift (.load m r hl)) s Φ := fun Q hQ => by
  have hw : (m.view.loc (c : Thread nD τ) ↦[Finset.univ]{fullShare} s m.view.ref : sProp (𝓜 nD τ sig Val))
      ⊢ iprop(((m.view.loc (c : Thread nD τ) ↦[Finset.univ]{fullShare} s m.view.ref)
          -∗ wp frame (wpE defs 𝒱 (c : Thread nD τ) none) E (.ret (m.view.readAt Val r (s m.view.ref))) Q)
        -∗ wp frame (wpE defs 𝒱 (c : Thread nD τ) none) E (.op (.load m r hl) .ret) Q) :=
    wp_load 𝒱 (c : Thread nD τ) none E (Q := Q) (Finset.subset_univ _)
  rw [own_take hm]
  iintro ⟨H, Hr⟩
  unfold Prog.lift
  iapply hw $$ H
  iintro H
  rw [wp_ret]; imodintro
  iapply (hQ _ _ h)
  rw [own_take hm]
  isplitl [H] <;> iassumption

theorem runs_store {cs : CoreSpace} {sh : Shape} {e : EltTy} {m : Memref sig .tc cs sh e} {r : Rect sh}
    {w : r.shape.Idx → Val e} {Mk : Finset r.shape.Idx} {hx : (m.access r).Stores Mk}
    {hk : Mk = Finset.univ ∨ ∀ a, r.stride a = 1} {Φ : PUnit → St nD τ sig Val c → Prop} (hm : m.view.ref ∈ R)
    (h : Φ ⟨⟩ (Function.update s m.view.ref ((m.access r).write Val (s m.view.ref) w Mk))) :
    Runs defs 𝒱 c E R (Prog.lift (.store m r w Mk hx hk)) s Φ := fun Q hQ => by
  have hw : ((m.access r).loc (c : Thread nD τ) ↦[Finset.univ]{fullShare} s m.view.ref : sProp (𝓜 nD τ sig Val))
      ⊢ iprop((((m.access r).loc (c : Thread nD τ) ↦[Finset.univ]{fullShare} ((m.access r).write Val (s m.view.ref) w Mk))
          -∗ wp frame (wpE defs 𝒱 (c : Thread nD τ) none) E (.ret ⟨⟩) Q)
        -∗ wp frame (wpE defs 𝒱 (c : Thread nD τ) none) E (.op (.store m r w Mk hx hk) .ret) Q) :=
    wp_store 𝒱 (c : Thread nD τ) none E (Q := Q) (Finset.subset_univ _)
  rw [own_take hm]
  iintro ⟨H, Hr⟩
  unfold Prog.lift
  iapply hw $$ H
  iintro H
  rw [wp_ret]; imodintro
  iapply (hQ _ _ h)
  rw [own_put hm]
  isplitl [H] <;> iassumption

/-! ## Bodies that only have to end -/

/-- `p` ends from any contents of the buffers of `R`, whatever it leaves there. -/
def Ends (defs : Defs nD τ sig Val Λ) (𝒱 : Variants) (c : Dev nD) (E : Set ℕ) (R : Finset (Ref sig .tc)) {α : Type}
    (p : Prog (TpuEff nD τ sig Val Λ .tc) α) : Prop :=
  ∀ s : St nD τ sig Val c, Runs defs 𝒱 c E R p s fun _ _ => True

theorem ends_pure (a : α) : Ends defs 𝒱 c E R (pure a) := fun _ => runs_pure trivial

theorem ends_bind {p : Prog (TpuEff nD τ sig Val Λ .tc) α} {k : α → Prog (TpuEff nD τ sig Val Λ .tc) β}
    (hp : Ends defs 𝒱 c E R p) (hk : ∀ a, Ends defs 𝒱 c E R (k a)) : Ends defs 𝒱 c E R (p >>= k) :=
  fun s => runs_bind (runs_mono (hp s) fun a s' _ => hk a s')

theorem ends_dite {b : Prop} [Decidable b] {p : b → Prog (TpuEff nD τ sig Val Λ .tc) α}
    {q : ¬ b → Prog (TpuEff nD τ sig Val Λ .tc) α} (hp : ∀ h, Ends defs 𝒱 c E R (p h)) (hq : ∀ h, Ends defs 𝒱 c E R (q h)) :
    Ends defs 𝒱 c E R (if h : b then p h else q h) := by
  split
  exacts [hp _, hq _]

theorem ends_load {cs : CoreSpace} {sh : Shape} {e : EltTy} {m : Memref sig .tc cs sh e} {r : LoadRect sh}
    {hl : m.view.LoadsAt r} (hm : m.view.ref ∈ R) : Ends defs 𝒱 c E R (Prog.lift (.load m r hl)) :=
  fun _ => runs_load hm trivial

theorem ends_store {cs : CoreSpace} {sh : Shape} {e : EltTy} {m : Memref sig .tc cs sh e} {r : Rect sh}
    {w : r.shape.Idx → Val e} {Mk : Finset r.shape.Idx} {hx : (m.access r).Stores Mk}
    {hk : Mk = Finset.univ ∨ ∀ a, r.stride a = 1} (hm : m.view.ref ∈ R) :
    Ends defs 𝒱 c E R (Prog.lift (.store m r w Mk hx hk)) :=
  fun _ => runs_store hm trivial

/-- The buffers of `R`, each held whole at some contents. -/
def Held (c : Dev nD) (R : Finset (Ref sig .tc)) : sProp (𝓜 nD τ sig Val) :=
  bigSep (M := 𝓜 nD τ sig Val) R fun b => iprop(∃ f : Buf Val ((c : Thread nD τ).loc b), ((c : Thread nD τ).loc b) ↦{fullShare} f)

theorem held_of_own (s : St nD τ sig Val c) : (Own c R s : sProp (𝓜 nD τ sig Val)) ⊢ Held c R :=
  BI.bigSep_mono fun b _ =>
    (show (((c : Thread nD τ).loc b ↦{fullShare} s b) : sProp (𝓜 nD τ sig Val))
        ⊢ iprop(∃ f : Buf Val ((c : Thread nD τ).loc b), ((c : Thread nD τ).loc b) ↦{fullShare} f) from by
      iintro H; iexists (s b); iexact H)

theorem own_of_held [∀ e, Nonempty (Val e)] : (Held c R : sProp (𝓜 nD τ sig Val)) ⊢ iprop(∃ s : St nD τ sig Val c, Own c R s) :=
  BI.bigSep_exists_pi R fun (b : Ref sig .tc) (f : Buf Val ((c : Thread nD τ).loc b)) => iprop(((c : Thread nD τ).loc b) ↦{fullShare} f)

/-- A body that ends gives its buffers back. -/
theorem Ends.held [∀ e, Nonempty (Val e)] {p : Prog (TpuEff nD τ sig Val Λ .tc) α} (h : Ends defs 𝒱 c E R p) :
    (Held c R : sProp (𝓜 nD τ sig Val)) ⊢ wp frame (wpE defs 𝒱 (c : Thread nD τ) none) E p fun _ => Held c R := by
  refine own_of_held.trans ?_
  iintro ⟨%s, H⟩
  iapply (h s _ fun _ s' _ => held_of_own s')
  iexact H

theorem held_union {R R' : Finset (Ref sig .tc)} (h : Disjoint R R') :
    (Held c (R ∪ R') : sProp (𝓜 nD τ sig Val)) = iprop(Held c R ∗ Held c R') := BI.bigSep_union h

theorem held_image {I : Type} [DecidableEq I] [Fintype I] {f : I → Ref sig .tc} (h : Function.Injective f) :
    (Held c (Finset.univ.image f) : sProp (𝓜 nD τ sig Val)) = bigSep (M := 𝓜 nD τ sig Val) Finset.univ fun i => iprop(∃ g : Buf Val ((c : Thread nD τ).loc (f i)), ((c : Thread nD τ).loc (f i)) ↦{fullShare} g) :=
  SparseCore.bigSep_image_of_injOn h.injOn _

/-! ## A pipeline whose body ends -/

open Idealize.ShloMosaic.Pipeline (RDat Cfg stageRef shareOf ΦA)

variable {Λ₀ : Labels} (cfg : Cfg sig Λ₀)

/-- The buffers that the body may use at point `t`: the windows' current ones and the call's own. -/
def live (t : Fin cfg.N) : Finset (Ref sig .tc) :=
  (Finset.univ.image fun w => stageRef cfg.spec ⟨w, cfg.slots t w⟩)
    ∪ ((Finset.univ.filter fun b : Ref sig .tc => b.isScoped) \ Finset.univ.image (stageRef cfg.spec))

variable {cfg}

theorem stage_mem_live (t : Fin cfg.N) (w : Fin cfg.W) : ((cfg.win w).stage (cfg.slots t w)).view.ref ∈ live cfg t :=
  Finset.mem_union_left _ (Finset.mem_image_of_mem (fun w => stageRef cfg.spec ⟨w, cfg.slots t w⟩) (Finset.mem_univ w))

theorem scratch_mem_live (t : Fin cfg.N) {b : Ref sig .tc} (hb : b.isScoped = true) (hn : ∀ k, stageRef cfg.spec k ≠ b) :
    b ∈ live cfg t :=
  Finset.mem_union_right _ (Finset.mem_sdiff.mpr ⟨Finset.mem_filter.mpr ⟨Finset.mem_univ _, hb⟩, fun h => by
    obtain ⟨k, -, hk⟩ := Finset.mem_image.mp h; exact hn k hk⟩)

/-- The proof data of a body of which only its ending is known: arrays as at entry, nothing said of what it leaves. -/
def anyDat (c : Dev nD) (A : (w : Fin cfg.W) → Buf Val ((cfg.win w).arr.view.loc (c : Thread nD τ))) :
    RDat τ Val Unit ℕ (UR sig nD τ) ℕ cfg c where
  A := A
  after _ _ _ _ := True
  Φ _ := ΦA cfg.spec c
  q w := shareOf cfg.spec w
  owed _ := 0

theorem held_live (hw : Pipeline.WinFacts₀ cfg.spec) (t : Fin cfg.N) :
    (Held c (live cfg t) : sProp (𝓜 nD τ sig Val))
      = iprop((bigSep (M := 𝓜 nD τ sig Val) Finset.univ fun w : Fin cfg.W => iprop(∃ g : Buf Val (((cfg.win w).stage (cfg.slots t w)).view.loc (c : Thread nD τ)),
          (((cfg.win w).stage (cfg.slots t w)).view.loc (c : Thread nD τ)) ↦{fullShare} g)) ∗ Pipeline.scopedRest cfg.spec c) := by
  unfold live
  rw [held_union]
  · congr 1
    exact held_image (f := fun w => stageRef cfg.spec ⟨w, cfg.slots t w⟩) fun w w' h => by
      have := hw.stage_inj h; exact (Sigma.mk.inj this).1
  · refine Finset.disjoint_left.mpr fun b hb hb' => (Finset.mem_sdiff.mp hb').2 ?_
    obtain ⟨w, -, rfl⟩ := Finset.mem_image.mp hb
    exact Finset.mem_image_of_mem _ (Finset.mem_univ _)

/-- A body that ends at every point meets the pipeline's obligation for `anyDat`. -/
theorem obligation_of_ends [∀ e, Nonempty (Val e)] (hw : Pipeline.WinFacts₀ cfg.spec)
    (hs : ∀ (w : Fin cfg.W) (s : Fin (cfg.spec w).nbuf), ((cfg.spec w).stage s).IsWhole)
    {defs₀ : Defs nD τ sig Val Λ₀} {c : Dev nD} {A : (w : Fin cfg.W) → Buf Val ((cfg.win w).arr.view.loc (c : Thread nD τ))}
    (h : ∀ t, Ends defs₀ 𝒱 c Set.univ (live cfg t) (defs₀ .tc cfg.body (cfg.bodyArgs t (cfg.slots t)))) :
    (anyDat c A).BodyObligation defs₀ 𝒱 () Set.univ := fun t Y _ => by
  have hX : ∀ w, iprop(∃ X, owns (Ix := Unit) (Name := ℕ) (U := UR sig nD τ) (Lvl := ℕ) (Val := Val) (c : Thread nD τ) ((cfg.win w).stage (cfg.slots t w)) fullShare X)
      = iprop(∃ g : Buf Val (((cfg.win w).stage (cfg.slots t w)).view.loc (c : Thread nD τ)),
          (((cfg.win w).stage (cfg.slots t w)).view.loc (c : Thread nD τ)) ↦{fullShare} g) := fun w =>
    (hs w (cfg.slots t w)).exists_owns_eq fullShare
  have hL := held_live (τ := τ) (Val := Val) (c := c) hw t
  rw [← BI.bigSep_congr fun w _ => hX w] at hL
  have hin : (bigSep (M := 𝓜 nD τ sig Val) Finset.univ fun w : Fin cfg.W => owns (c : Thread nD τ) ((cfg.win w).stage (cfg.slots t w)) fullShare (Y w))
      ⊢ bigSep Finset.univ fun w : Fin cfg.W => iprop(∃ X, owns (c : Thread nD τ) ((cfg.win w).stage (cfg.slots t w)) fullShare X) :=
    BI.bigSep_mono fun w _ => (show (owns (c : Thread nD τ) ((cfg.win w).stage (cfg.slots t w)) fullShare (Y w) : sProp (𝓜 nD τ sig Val))
      ⊢ iprop(∃ X, owns (c : Thread nD τ) ((cfg.win w).stage (cfg.slots t w)) fullShare X) from by iintro H; iexists (Y w); iexact H)
  have hout : (bigSep (M := 𝓜 nD τ sig Val) Finset.univ fun w : Fin cfg.W => iprop(∃ X, owns (c : Thread nD τ) ((cfg.win w).stage (cfg.slots t w)) fullShare X))
      ⊢ bigSep Finset.univ fun w : Fin cfg.W => iprop(∃ X, ⌜(anyDat (cfg := cfg) c A).after w t (Y w) X⌝ ∗ owns (c : Thread nD τ) ((cfg.win w).stage (cfg.slots t w)) fullShare X) :=
    BI.bigSep_mono fun w _ => (show (iprop(∃ X, owns (c : Thread nD τ) ((cfg.win w).stage (cfg.slots t w)) fullShare X) : sProp (𝓜 nD τ sig Val))
      ⊢ iprop(∃ X, ⌜(anyDat (cfg := cfg) c A).after w t (Y w) X⌝ ∗ owns (c : Thread nD τ) ((cfg.win w).stage (cfg.slots t w)) fullShare X) from by
        iintro ⟨%X, H⟩; iexists X; isplitr
        · ipureintro; trivial
        iexact H)
  show iprop((Pipeline.scopedRest cfg.spec c ∗ ∃ r, prngReg c r) ∗ (anyDat (cfg := cfg) c A).owesAt () t.castSucc ∗ _) ⊢ wp _ _ _ _ fun _ =>
    iprop((Pipeline.scopedRest cfg.spec c ∗ ∃ r, prngReg c r) ∗ (anyDat (cfg := cfg) c A).owesAt () t.castSucc ∗ _)
  iintro ⟨⟨Hr, Hp⟩, Ho, Hw⟩
  ihave Hw := hin $$ Hw
  iapply (wp_wand_r frame (wpE defs₀ 𝒱 (c : Thread nD τ) none) Set.univ)
  isplitl [Hr Hw]
  · iapply (h t).held
    rw [hL]
    isplitl [Hw] <;> iassumption
  iintro %_ H
  ihave H := (Entails.of_eq hL) $$ H
  icases H with ⟨Hw, Hr⟩
  isplitl [Hr Hp]
  · isplitl [Hr] <;> iassumption
  isplitl [Ho]; · iexact Ho
  iapply hout
  iexact Hw

end Cert.Moba

end
-- ==== Proof.MobaFrameIdeal.lean ====
/-
  The attention's body with its mask named, ended: every operation of it loads from or stores into one of its fifteen buffers, and the body
  ends from any contents of them. The pieces of the body are followed in the order in which it calls them.
-/
module

public import proofs.«01_k».proof.Proof.MobaRun
public import proofs.«01_k».proof.Proof.Gen.Kernel3Ideal.Frame

@[expose] public section

set_option maxRecDepth 65536

noncomputable section

namespace Cert.Kernel3Ideal.Gen

open Idealize.ShloMosaic Idealize.ShloMosaic.TcCoe Idealize.ShloMosaic.Tactic
open Cert.Moba

variable {F : FTy → Type} [FloatOps F] [Named F]
section Body

variable (𝒱 : Variants) (c : Dev nD) (E : Set ℕ) (R : Finset (Ref sig .tc)) (i : grid0.Coords)
variable
  (arg1 : Memref sig .tc .vmem S1x2048x128 .bf16) (harg1 : arg1.IsWhole)
  (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .bf16) (harg6 : arg6.IsWhole)
  (arg7 : Memref sig .tc .vmem S1x2048x128 .bf16) (harg7 : arg7.IsWhole)
  (arg8 : Memref sig .tc .vmem S1x2048x128 .bf16) (harg8 : arg8.IsWhole)
  (arg9 : Memref sig .tc .vmem S2x2x8x256x128 .bf16) (harg9 : arg9.IsWhole)
  (arg10 : Memref sig .tc .vmem S2x8x2x80x256 .bf16) (harg10 : arg10.IsWhole)
  (arg11 : Memref sig .tc .vmem S2x8x2x128x256 .bf16) (harg11 : arg11.IsWhole)
  (arg12 : Memref sig .tc .vmem S2x2x8x256x256 .f32) (harg12 : arg12.IsWhole)
  (arg13 : Memref sig .tc .vmem S2x2x8x256x256 .f32) (harg13 : arg13.IsWhole)
  (arg14 : Memref sig .tc .vmem S2x2x1x256 .f32) (harg14 : arg14.IsWhole)
  (arg15 : Memref sig .tc .vmem S2x2x2x80x256 .f32) (harg15 : arg15.IsWhole)

variable (h1 : arg1.view.ref ∈ R) (h2 : arg2.view.ref ∈ R) (h3 : arg3.view.ref ∈ R) (h4 : arg4.view.ref ∈ R) (h5 : arg5.view.ref ∈ R)
  (h6 : arg6.view.ref ∈ R) (h7 : arg7.view.ref ∈ R) (h8 : arg8.view.ref ∈ R) (h9 : arg9.view.ref ∈ R) (h10 : arg10.view.ref ∈ R)
  (h11 : arg11.view.ref ∈ R) (h12 : arg12.view.ref ∈ R) (h13 : arg13.view.ref ∈ R) (h14 : arg14.view.ref ∈ R) (h15 : arg15.view.ref ∈ R)

include h1 h2 h3 h4 h5 h6 h7 h8 h9 h10 h11 h12 h13 h14 h15

set_option maxHeartbeats 8000000 in
theorem ends_63 :
    Ends (defs₀ (F := F)) 𝒱 c E R
      (k0_part63 i arg1 harg1 arg2 harg2 arg3 harg3 arg4 harg4 arg5 harg5 arg6 harg6 arg7 harg7 arg8 harg8 arg9 harg9 arg10 harg10 arg11 harg11 arg12 harg12 arg13 harg13 arg14 harg14 arg15 harg15 ) := by
  repeat first
    | refine ends_bind ?_ fun _ => ?_ | refine ends_dite (fun _ => ?_) (fun _ => ?_) | refine ends_load ?_
    | refine ends_store ?_ | refine ends_pure _ | assumption

set_option maxHeartbeats 8000000 in
theorem ends_228 :
    Ends (defs₀ (F := F)) 𝒱 c E R
      (k0_part228 i arg1 harg1 arg2 harg2 arg3 harg3 arg4 harg4 arg5 harg5 arg6 harg6 arg7 harg7 arg8 harg8 arg9 harg9 arg10 harg10 arg11 harg11 arg12 harg12 arg13 harg13 arg14 harg14 arg15 harg15) := by
  refine ends_bind (ends_63 𝒱 c E R i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 h5 h6 h7 h8 h9 h10 h11 h12 h13 h14 h15) fun _ => ?_
  repeat first
    | refine ends_bind ?_ fun _ => ?_ | refine ends_dite (fun _ => ?_) (fun _ => ?_) | refine ends_load ?_
    | refine ends_store ?_ | refine ends_pure _ | assumption

set_option maxHeartbeats 8000000 in
theorem ends_229 (arg0 : BitVec 32) (v0 : BitVec 32) (v1 : BitVec 32) (v2 : IVec S256x256 32) (v3 : IVec S256x256 32) (v1098 : FVec F S1x256 .f32) (v1141 : FVec F S1x256 .f32) (v1528 : FVec F S1x256 .f32) (v1571 : FVec F S1x256 .f32) (v1684 : FVec F S1x256 .f32) (v1711 : FVec F S16x256 .f32) (v1718 : FVec F S1x128 .f32) (v1722 : FVec F S128x256 .f32) (v1757 : FVec F S256x128 .bf16) :
    Ends (defs₀ (F := F)) 𝒱 c E R
      (k0_part229 i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v0 v1 v2 v3 v1098 v1141 v1528 v1571 v1684 v1711 v1718 v1722 v1757) := by
  repeat first
    | refine ends_bind ?_ fun _ => ?_ | refine ends_dite (fun _ => ?_) (fun _ => ?_) | refine ends_load ?_
    | refine ends_store ?_ | refine ends_pure _ | assumption

set_option maxHeartbeats 8000000 in
theorem ends_230 (arg0 : BitVec 32) (v0 : BitVec 32) (v1 : BitVec 32) (v2 : IVec S256x256 32) (v3 : IVec S256x256 32) (v1528 : FVec F S1x256 .f32) (v1571 : FVec F S1x256 .f32) (v2514 : FVec F S1x256 .f32) (v2543 : FVec F S8x128 .bf16) (v2792 : FVec F S1x256 .f32) (v3896 : FVec F S1x256 .f32) (v4172 : FVec F S1x256 .f32) (v4176 : Vec F S1x1x1x256x256 .f32) :
    Ends (defs₀ (F := F)) 𝒱 c E R
      (k0_part230 i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v0 v1 v2 v3 v1528 v1571 v2514 v2543 v2792 v3896 v4172 v4176) := by
  repeat first
    | refine ends_bind ?_ fun _ => ?_ | refine ends_dite (fun _ => ?_) (fun _ => ?_) | refine ends_load ?_
    | refine ends_store ?_ | refine ends_pure _ | assumption

set_option maxHeartbeats 8000000 in
theorem ends_body :
    Ends (defs₀ (F := F)) 𝒱 c E R
      (cc0_moba_attn i arg1 harg1 arg2 harg2 arg3 harg3 arg4 harg4 arg5 harg5 arg6 harg6 arg7 harg7 arg8 harg8 arg9 harg9 arg10 harg10 arg11 harg11 arg12 harg12 arg13 harg13 arg14 harg14 arg15 harg15) := by
  have h228 := ends_228 (F := F) 𝒱 c E R i arg1 harg1 arg2 harg2 arg3 harg3 arg4 harg4 arg5 harg5 arg6 harg6 arg7 harg7 arg8 harg8 arg9 harg9 arg10 harg10 arg11 harg11 arg12 harg12 arg13 harg13 arg14 harg14 arg15 harg15 h1 h2 h3 h4 h5 h6 h7 h8 h9 h10 h11 h12 h13 h14 h15
  refine ends_bind h228 fun _ => ends_bind ?_ fun _ => ends_bind ?_ fun _ => ?_
  · apply ends_229 <;> assumption
  · apply ends_230 <;> assumption
  repeat first
    | refine ends_bind ?_ fun _ => ?_ | refine ends_dite (fun _ => ?_) (fun _ => ?_) | refine ends_load ?_
    | refine ends_store ?_ | refine ends_pure _ | assumption

end Body

/-! ## The frame -/

variable (m : (ℓ : Loc nD τ sig) → Buf (Elt F) ℓ) (ρ : Dev nD → PrngReg)

/-- No scratch of the call is a staging buffer of it. -/
theorem scratch_live (t : Fin cfg0.N) : ∀ b ∈ [cc0_scratch0, cc0_scratch1, cc0_scratch2, cc0_scratch3, cc0_scratch4, cc0_scratch5, cc0_scratch6],
    b ∈ live cfg0 t := fun b hb =>
  scratch_mem_live t ((by decide : ∀ b ∈ [cc0_scratch0, cc0_scratch1, cc0_scratch2, cc0_scratch3, cc0_scratch4, cc0_scratch5, cc0_scratch6], b.isScoped = true) b hb)
    ((by decide : ∀ b ∈ [cc0_scratch0, cc0_scratch1, cc0_scratch2, cc0_scratch3, cc0_scratch4, cc0_scratch5, cc0_scratch6], ∀ k, Pipeline.stageRef spec0 k ≠ b) b hb)

theorem ends_at (c : Dev nD) (t : Fin cfg0.N) :
    Ends (defs₀ (F := F)) Variants.none c Set.univ (live cfg0 t) (bodyAt0 t) := by
  apply ends_body
  · exact stage_mem_live t 0
  · exact stage_mem_live t 1
  · exact stage_mem_live t 2
  · exact stage_mem_live t 3
  · exact stage_mem_live t 4
  · exact stage_mem_live t 5
  · exact stage_mem_live t 6
  · exact stage_mem_live t 7
  all_goals exact scratch_live t _ (by decide)

theorem run_quiescent : θ_run defs (onTc (τ := τ) (main (F := F))) ⟨m, fun _ => 0, ρ⟩ (fun r =>
    Pipeline.RDat.FramePost cfg0 (fun c => anyDat c fun w => V m c (Pipeline.arrRef spec0 w)) (V m) r ∧ r.2.sem = fun _ => 0) :=
  Pipeline.RDat.θ_run_frame_track_shared (Q' := _) cfgs (0 : Fin 1) launch₀0 defs₀ Variants.none
    (fun c => anyDat c fun w => V m c (Pipeline.arrRef spec0 w)) m ρ main
    (hbody := fun c => obligation_of_ends winFacts₀0 stage_whole0 (ends_at c)) (hq := fun _ _ _ => rfl)
    (howed := fun _ _ => rfl) (V := V m) (hmain := hmain m Variants.none) (hA := fun _ _ => rfl)
    (hin := fun _ => .rfl) (hout := fun _ => .rfl)

/-- The attention ends, its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1.arr_in c 3 rfl).trans (V_main_arg0 m c), (h.1.arr_in c 4 rfl).trans (V_main_arg1 m c),
    (h.1.arr_in c 5 rfl).trans (V_main_arg2 m c), (h.1.arr_in c 6 rfl).trans (V_main_arg3 m c)⟩, h.2⟩) (run_quiescent m ρ)

end Cert.Kernel3Ideal.Gen

end
-- ==== Proof.OutRow.lean ====
module

public import Idealize.ShloMosaic.PureOps.Ideal
public import Idealize.ShloMosaic.PureOps.Ideal.Laws
public import Idealize.ShloMosaic.Lib.IdealHost

@[expose] public section

noncomputable section

namespace Cert.Proof.Out

open Idealize.ShloMosaic

/-! ## One row of the gated output projection, over the extended reals -/

/-- The words of one half, one eighth, the cubic factor and the factor under the hyperbolic tangent. -/
abbrev cHalf : EReal := Ideal.ofBits FTy.f32 0x3F000000#32
abbrev cEighth : EReal := Ideal.ofBits FTy.f32 0x3E000000#32
abbrev cCube : EReal := Ideal.ofBits FTy.f32 0x3D372713#32
abbrev cTanh : EReal := Ideal.ofBits FTy.f32 0x3F4C422A#32

theorem cHalf_eq : cHalf = ((1 / 2 : ℝ) : EReal) := by
  simp [cHalf, Ideal.ofBits, Ideal.ieee]
  rw [← EReal.coe_mul]; norm_num [zpow_neg]

theorem cEighth_eq : cEighth = ((1 / 8 : ℝ) : EReal) := by
  simp [cEighth, Ideal.ofBits, Ideal.ieee]
  rw [← EReal.coe_mul]; norm_num [zpow_neg]

/-- A half of one plus the hyperbolic tangent of half the argument is the logistic function, infinities included. -/
theorem half_tanh (x : EReal) : cHalf * (1 + Ideal.tanh (cHalf * x)) = Ideal.div 1 (1 + Ideal.exp (-x)) := by
  rw [cHalf_eq]
  change _ = Ideal.logistic x
  induction x using EReal.rec with
  | bot =>
    rw [EReal.coe_mul_bot_of_pos (by norm_num), Ideal.tanh_bot, Ideal.logistic_bot]
    rw [← EReal.coe_one, ← EReal.coe_neg, ← EReal.coe_add, ← EReal.coe_mul]; norm_num
  | top =>
    rw [EReal.coe_mul_top_of_pos (by norm_num), Ideal.tanh_top, Ideal.logistic_top, ← EReal.coe_one, ← EReal.coe_add, ← EReal.coe_mul]; norm_num
  | coe r =>
    rw [← EReal.coe_mul, Ideal.tanh_coe, Ideal.logistic_coe, ← EReal.coe_one, ← EReal.coe_add, ← EReal.coe_mul]
    congr 1
    have e : Real.exp (1 / 2 * r) * Real.exp (-(1 / 2 * r)) = 1 := by rw [← Real.exp_add]; simp
    have e2 : Real.exp (-r) = Real.exp (-(1 / 2 * r)) * Real.exp (-(1 / 2 * r)) := by rw [← Real.exp_add]; ring_nf
    have p := Real.exp_pos (1 / 2 * r)
    have q := Real.exp_pos (-(1 / 2 * r))
    rw [Real.tanh_eq_sinh_div_cosh, Real.sinh_eq, Real.cosh_eq, e2]
    generalize Real.exp (1 / 2 * r) = u at *
    generalize Real.exp (-(1 / 2 * r)) = v at *
    have : u = v⁻¹ := eq_inv_of_mul_eq_one_left e
    subst this
    field_simp
    ring

/-- The activation without its half: `y (1 + tanh (…))`. -/
def act (y : EReal) : EReal := y * (1 + Ideal.tanh (cTanh * (y + cCube * (y * y * y))))

/-- The logistic function as one over one plus the exponential of the opposite. -/
def lgst (x : EReal) : EReal := Ideal.div 1 (1 + Ideal.exp (-x))

/-- The gated element as the reference writes it: activation, gate, and the second branch's `silu`. -/
def mix (y gate z : EReal) : EReal :=
  y * (cHalf * (1 + Ideal.tanh (cTanh * (y + cCube * (y * y * y))))) * lgst gate * (z * lgst z)

/-- The same with the halves gathered into one eighth, as the kernel writes it. -/
theorem mix_eq (y gate z : EReal) :
    cEighth * act y * (1 + Ideal.tanh (cHalf * gate)) * (z * (1 + Ideal.tanh (cHalf * z))) = mix y gate z := by
  have e : cEighth = cHalf * cHalf * cHalf := by
    rw [cEighth_eq, cHalf_eq, ← EReal.coe_mul, ← EReal.coe_mul]; norm_num
  unfold mix lgst act
  rw [← half_tanh gate, ← half_tanh z, e]
  generalize (1 + Ideal.tanh (cHalf * gate)) = a
  generalize (1 + Ideal.tanh (cHalf * z)) = b
  generalize (1 + Ideal.tanh (cTanh * (y + cCube * (y * y * y)))) = d
  ac_rfl

theorem half_act (y : EReal) :
    cHalf * act y = y * (cHalf * (1 + Ideal.tanh (cTanh * (y + cCube * (y * y * y))))) := by
  unfold act; ac_rfl

/-- The gate's argument at one column: a product of the activated row with the gate's weights, plus the bias. -/
def gateArg (y : Fin 512 → EReal) (wg : Fin 512 → Fin 512 → EReal) (bg : Fin 512 → EReal) (k : Fin 512) : EReal :=
  ∑ l : Fin 512, y l * (cHalf * (1 + Ideal.tanh (cTanh * (y l + cCube * (y l * y l * y l))))) * wg l k + bg k

/-- The row after the residual: the attention half and the gated half against the output weights. -/
def resid (x : Fin 1024 → EReal) (ma y z : Fin 512 → EReal) (wg : Fin 512 → Fin 512 → EReal) (bg : Fin 512 → EReal)
    (w : Fin 1024 → Fin 1024 → EReal) (j : Fin 1024) : EReal :=
  x j + (∑ k : Fin 512, ma k * w ⟨k.val, by omega⟩ j
    + ∑ k : Fin 512, mix (y k) (gateArg y wg bg k) (z k) * w ⟨512 + k.val, by omega⟩ j)

theorem resid_congr {x x' : Fin 1024 → EReal} {ma ma' y y' z z' : Fin 512 → EReal} (hx : x = x') (hm : ma = ma') (hy : y = y')
    (hz : z = z') (wg : Fin 512 → Fin 512 → EReal) (bg : Fin 512 → EReal) (w : Fin 1024 → Fin 1024 → EReal) :
    resid x ma y z wg bg w = resid x' ma' y' z' wg bg w := by
  subst hx hm hy hz; rfl

/-- The normalised row: scaled by the reciprocal root of its mean square, times the gain. -/
def normed (h : Fin 1024 → EReal) (g : Fin 1024 → EReal) (j : Fin 1024) : EReal :=
  h j * Ideal.rsqrt (Ideal.div (∑ k : Fin 1024, h k * h k) (Ideal.ofBits FTy.f32 0x44800000#32)
    + Ideal.ofBits FTy.f32 0x358637BD#32) * g j

end Cert.Proof.Out

end

end
-- ==== Proof.OutRef.lean ====
module

public import proofs.«01_k».proof.Proof.Gen.Reference2Ideal.Read
public import Idealize.ShloMosaic.Lib.Pointwise
public import proofs.«01_k».proof.Proof.OutRow

@[expose] public section

noncomputable section

namespace Cert.Proof.Out

open Cert.Reference2Ideal Cert.Reference2Ideal.Gen Idealize.ShloMosaic Idealize.SL.Sem

/-- The reference's element is the normalised row of its row. -/
theorem ref_apply (x0 x1 x2 x3 x4 x5 x6 x7) (p : Fin 16384) (j : Fin 1024) :
    Read.val_main_v50 (F := Ideal) x0 x1 x2 x3 x4 x5 x6 x7 (ix2 p j)
      = normed (resid (fun k => x0 (ix3 (⟨p.val / 2048, by omega⟩ : Fin 8) (⟨p.val % 2048, by omega⟩ : Fin 2048) k))
          (fun k => x1 (ix2 p k)) (fun k => x2 (ix2 p k)) (fun k => x3 (ix2 p k))
          (fun l k => x4 (ix3 0 l k)) (fun k => x5 (ix2 0 k)) (fun k j => x6 (ix3 0 k j))) (fun k => x7 (ix1 k)) j := by
  unfold normed resid gateArg mix lgst
  pointwise [Read.val_main_v0,Read.val_main_v1,Read.val_main_v2,Read.val_main_cst,Read.val_main_v3,Read.val_main_v4,Read.val_main_v5,Read.val_main_cst_0,Read.val_main_v6,Read.val_main_v7,Read.val_main_v8,Read.val_main_cst_1,Read.val_main_v9,Read.val_main_v10,Read.val_main_cst_2,Read.val_main_v11,Read.val_main_v12,Read.val_main_v13,Read.val_main_v14,Read.val_main_v15,Read.val_main_v16,Read.val_main_v17,Read.val_main_v18,Read.val_main_v19,Read.val_main_v20,Read.val_main_v21,Read.val_main_cst_3,Read.val_main_v22,Read.val_main_v23,Read.val_main_cst_4,Read.val_main_v24,Read.val_main_v25,Read.val_main_v26,Read.val_main_v27,Read.val_main_v28,Read.val_main_call0_v0,Read.val_main_call0_v1,Read.val_main_call0_cst,Read.val_main_call0_v2,Read.val_main_call0_v3,Read.val_main_call0_cst_0,Read.val_main_call0_v4,Read.val_main_call0_v5,Read.val_main_v29,Read.val_main_v30,Read.val_main_v31,Read.val_main_v32,Read.val_main_v33,Read.val_main_v34,Read.val_main_v35,Read.val_main_v36,Read.val_main_v37,Read.val_main_cst_5,Read.val_main_v38,Read.val_main_v39,Read.val_main_cst_6,Read.val_main_v40,Read.val_main_v41,Read.val_main_cst_7,Read.val_main_v42,Read.val_main_v43,Read.val_main_v44,Read.val_main_v45,Read.val_main_v46,Read.val_main_v47,Read.val_main_v48,Read.val_main_v49,Read.val_main_v50]

end Cert.Proof.Out

end

end
-- ==== Proof.OutBlock.lean ====
module

public import proofs.«01_k».proof.Proof.Gen.Kernel2Ideal.Skeleton
public import Idealize.ShloMosaic.Lib.Pointwise
public import proofs.«01_k».proof.Proof.OutRow

@[expose] public section

noncomputable section

namespace Cert.Proof.Out

open Cert.Kernel2Ideal Cert.Kernel2Ideal.Gen Idealize.ShloMosaic Idealize.SL.Sem

variable {F : FTy → Type} [FloatOps F]

/-- One chunk of 256 rows: gate, concatenation, output product, residual and normalisation. -/
def blk (y : Vec F S256x512 .f32) (ma z : Vec F S256x512 .bf16) (x : Vec F S256x1024 .f32)
    (wg : Vec F S512x512 .bf16) (bg : Vec F S1x512 .f32) (w : Vec F S1024x1024 .bf16) (g : Vec F S1x1024 .f32) :
    Vec F S256x1024 .f32 :=
  k0_pay8 (k0_pay4 z) (k0_pay5 y wg bg) (k0_pay6 z) k0_pay7 ma x w g

/-- A chunk's element is the normalised row of its row. -/
theorem blk_apply (y : Vec Ideal S256x512 .f32) (ma z : Vec Ideal S256x512 .bf16) (x : Vec Ideal S256x1024 .f32)
    (wg : Vec Ideal S512x512 .bf16) (bg : Vec Ideal S1x512 .f32) (w : Vec Ideal S1024x1024 .bf16) (g : Vec Ideal S1x1024 .f32)
    (p : Fin 256) (j : Fin 1024) :
    blk y ma z x wg bg w g (ix2 p j)
      = normed (resid (fun k => x (ix2 p k)) (fun k => ma (ix2 p k)) (fun k => y (ix2 p k)) (fun k => z (ix2 p k))
          (fun l k => wg (ix2 l k)) (fun k => bg (ix2 0 k)) (fun k j => w (ix2 k j))) (fun k => g (ix2 0 k)) j := by
  unfold normed resid gateArg
  simp only [← mix_eq, ← half_act]
  unfold act
  pointwise [blk, k0_pay8, k0_pay4, k0_pay5, k0_pay6, k0_pay7]

end Cert.Proof.Out

end

end
-- ==== Proof.OutCase.lean ====
module

public import proofs.«01_k».proof.Proof.Gen.Kernel2Ideal.Frame
public import Idealize.ShloMosaic.Lib.Pipeline.ValueKit
public import Idealize.ShloMosaic.Lib.Pipeline.ReadBack
public import proofs.«01_k».proof.Proof.OutBlock

@[expose] public section

set_option maxRecDepth 16384

noncomputable section

namespace Cert.Proof.Out

open Cert.Kernel2Ideal Cert.Kernel2Ideal.Gen Idealize.ShloMosaic Idealize.SL.Sem

/-- The block a point leaves, row by row, from its input blocks and the two weight matrices. -/
def rowOf (x : Vec Ideal S1024x1024 .f32) (ma : Vec Ideal S1024x512 .bf16) (y : Vec Ideal S1024x512 .f32)
    (z : Vec Ideal S1024x512 .bf16) (wg : Vec Ideal S512x512 .bf16) (bg : Vec Ideal S1x512 .f32)
    (w : Vec Ideal S1024x1024 .bf16) (g : Vec Ideal S1x1024 .f32) (p j : Fin 1024) : EReal :=
  normed (resid (fun k => x (ix2 p k)) (fun k => ma (ix2 p k)) (fun k => y (ix2 p k)) (fun k => z (ix2 p k))
    (fun l k => wg (ix2 l k)) (fun k => bg (ix2 0 k)) (fun k j => w (ix2 k j))) (fun k => g (ix2 0 k)) j

/-- A chunk of rows starting at row `o` of the point's blocks. -/
theorem chunk (o : ℕ) (x : Vec Ideal S1024x1024 .f32) (ma : Vec Ideal S1024x512 .bf16) (y : Vec Ideal S1024x512 .f32)
    (z : Vec Ideal S1024x512 .bf16) (wg : Vec Ideal S512x512 .bf16) (bg : Vec Ideal S1x512 .f32)
    (w : Vec Ideal S1024x1024 .bf16) (g : Vec Ideal S1x1024 .f32) (p j : Fin 1024)
    (h5 : ∀ a : Fin 2, (![o, 0] : Fin 2 → ℕ) a + (![256, 512] : Fin 2 → ℕ) a ≤ S1024x512.size a)
    (h1 : ∀ a : Fin 2, (![o, 0] : Fin 2 → ℕ) a + (![256, 1024] : Fin 2 → ℕ) a ≤ S1024x1024.size a)
    (i : S256x1024.Idx) (hp : p.val = o + (i 0).val) (hj : j.val = (i 1).val) :
    blk (View.ld y (Rect.unit (s := S1024x512) ![o, 0] ![256, 512] h5)) (View.ld ma (Rect.unit (s := S1024x512) ![o, 0] ![256, 512] h5))
      (View.ld z (Rect.unit (s := S1024x512) ![o, 0] ![256, 512] h5)) (View.ld x (Rect.unit (s := S1024x1024) ![o, 0] ![256, 1024] h1)) wg bg w g i
      = rowOf x ma y z wg bg w g p j := by
  obtain ⟨a, b, rfl⟩ : ∃ (a : Fin 256) (b : Fin 1024), i = ix2 a b := ⟨i 0, i 1, eq_ix2 i⟩
  have hb : b = j := Fin.ext hj.symm
  subst hb
  have r1 : ∀ (e : EltTy) (X : Vec Ideal S1024x1024 e) (k : Fin 1024),
      View.ld X (Rect.unit (s := S1024x1024) ![o, 0] ![256, 1024] h1) (ix2 a k) = X (ix2 p k) := fun e X k => by
    refine congrArg X (funext fun d => Fin.ext ?_)
    match d with
    | ⟨0, _⟩ => show o + 1 * a.val = p.val; rw [hp]; show o + 1 * a.val = o + a.val; omega
    | ⟨1, _⟩ => show 0 + 1 * k.val = k.val; omega
  have r5 : ∀ (e : EltTy) (X : Vec Ideal S1024x512 e) (k : Fin 512),
      View.ld X (Rect.unit (s := S1024x512) ![o, 0] ![256, 512] h5) (ix2 a k) = X (ix2 p k) := fun e X k => by
    refine congrArg X (funext fun d => Fin.ext ?_)
    match d with
    | ⟨0, _⟩ => show o + 1 * a.val = p.val; rw [hp]; show o + 1 * a.val = o + a.val; omega
    | ⟨1, _⟩ => show 0 + 1 * k.val = k.val; omega
  rw [blk_apply]
  exact congrArg (fun r => normed r (fun k => g (ix2 0 k)) b)
    (resid_congr (funext (r1 _ x)) (funext (r5 _ ma)) (funext (r5 _ y)) (funext (r5 _ z)) _ _ _)

variable (m : (ℓ : Loc nD τ sig) → Buf (Elt Ideal) ℓ)

/-- What a later point leaves in the output's block, over the weights the point before left in scratch. -/
theorem case_later (c : Dev nD) (t : Fin cfg0.N) (h0 : ¬t.val % 16 = 0) (p j : Fin 1024) :
    (outsAt0 m c t.val t.isLt).1 (ix2 p j)
      = rowOf (iblk m c 0 t) (iblk m c 1 t) (iblk m c 2 t) (iblk m c 3 t) (outsAt0 m c (t.val - 1) (by omega)).2.1
          (iblk m c 5 t) (outsAt0 m c (t.val - 1) (by omega)).2.2 (iblk m c 7 t) p j := by
  rw [outsAt0_B m c t h0]
  frame_out
  simp only [read_unread_whole]
  generalize (outsAt0 m c (t.val - 1) (by omega)).2.1 = wg
  generalize (outsAt0 m c (t.val - 1) (by omega)).2.2 = w
  canon_tiles x h
  · exact chunk 768 (iblk m c 0 t) (iblk m c 1 t) (iblk m c 2 t) (iblk m c 3 t) wg (iblk m c 5 t) w (iblk m c 7 t) p j
      inb_S1024x512_S256x512_768_0 inb_S1024x1024_S256x1024_768_0 x h0 h1
  · exact chunk 512 (iblk m c 0 t) (iblk m c 1 t) (iblk m c 2 t) (iblk m c 3 t) wg (iblk m c 5 t) w (iblk m c 7 t) p j
      inb_S1024x512_S256x512_512_0 inb_S1024x1024_S256x1024_512_0 x h0 h1
  · exact chunk 256 (iblk m c 0 t) (iblk m c 1 t) (iblk m c 2 t) (iblk m c 3 t) wg (iblk m c 5 t) w (iblk m c 7 t) p j
      inb_S1024x512_S256x512_256_0 inb_S1024x1024_S256x1024_256_0 x h0 h1
  · exact chunk 0 (iblk m c 0 t) (iblk m c 1 t) (iblk m c 2 t) (iblk m c 3 t) wg (iblk m c 5 t) w (iblk m c 7 t) p j
      inb_S1024x512_S256x512_0_0 inb_S1024x1024_S256x1024_0_0 x (h0.trans (Nat.zero_add _).symm) h1

/-- A later point leaves both scratch matrices as they were. -/
theorem held_later (c : Dev nD) (t : Fin cfg0.N) (h0 : ¬t.val % 16 = 0) :
    (outsAt0 m c t.val t.isLt).2 = (outsAt0 m c (t.val - 1) (by omega)).2 := by
  rw [outsAt0_B m c t h0]
  unfold sout0_B_0 sout0_B_1
  rfl

/-- The first point stores the weights into the scratch matrices. -/
theorem held_first (c : Dev nD) (t : Fin cfg0.N) (h0 : t.val % 16 = 0) :
    (outsAt0 m c t.val t.isLt).2 = (iblk m c 4 t, iblk m c 6 t) := by
  rw [outsAt0_A m c t h0]
  refine Prod.ext ?_ ?_
  · funext i
    frame_out
    pointwise [k0_pay2]
  · funext i
    frame_out
    pointwise [k0_pay3]

/-- What the first point leaves in the output's block: the same rows, over the weights it has just stored. -/
theorem case_first (c : Dev nD) (t : Fin cfg0.N) (h0 : t.val % 16 = 0) (p j : Fin 1024) :
    (outsAt0 m c t.val t.isLt).1 (ix2 p j)
      = rowOf (iblk m c 0 t) (iblk m c 1 t) (iblk m c 2 t) (iblk m c 3 t) (iblk m c 4 t)
          (iblk m c 5 t) (iblk m c 6 t) (iblk m c 7 t) p j := by
  have e2 : ∀ X : Vec Ideal S512x512 .f32, (k0_pay2 X : Vec Ideal S512x512 .bf16) = (X : S512x512.Idx → EReal) := fun X => by
    funext i; pointwise [k0_pay2]
  have e3 : ∀ X : Vec Ideal S1024x1024 .f32, (k0_pay3 X : Vec Ideal S1024x1024 .bf16) = (X : S1024x1024.Idx → EReal) := fun X => by
    funext i; pointwise [k0_pay3]
  rw [outsAt0_A m c t h0]
  frame_out
  simp only [read_unread_whole, e2, e3]
  canon_tiles x h
  · exact chunk 768 (iblk m c 0 t) (iblk m c 1 t) (iblk m c 2 t) (iblk m c 3 t) (iblk m c 4 t) (iblk m c 5 t) (iblk m c 6 t) (iblk m c 7 t) p j
      inb_S1024x512_S256x512_768_0 inb_S1024x1024_S256x1024_768_0 x h0 h1
  · exact chunk 512 (iblk m c 0 t) (iblk m c 1 t) (iblk m c 2 t) (iblk m c 3 t) (iblk m c 4 t) (iblk m c 5 t) (iblk m c 6 t) (iblk m c 7 t) p j
      inb_S1024x512_S256x512_512_0 inb_S1024x1024_S256x1024_512_0 x h0 h1
  · exact chunk 256 (iblk m c 0 t) (iblk m c 1 t) (iblk m c 2 t) (iblk m c 3 t) (iblk m c 4 t) (iblk m c 5 t) (iblk m c 6 t) (iblk m c 7 t) p j
      inb_S1024x512_S256x512_256_0 inb_S1024x1024_S256x1024_256_0 x h0 h1
  · exact chunk 0 (iblk m c 0 t) (iblk m c 1 t) (iblk m c 2 t) (iblk m c 3 t) (iblk m c 4 t) (iblk m c 5 t) (iblk m c 6 t) (iblk m c 7 t) p j
      inb_S1024x512_S256x512_0_0 inb_S1024x1024_S256x1024_0_0 x (h0.trans (Nat.zero_add _).symm) h1

end Cert.Proof.Out

end

end
-- ==== Proof.OutValue.lean ====
module

public import proofs.«01_k».proof.Proof.Gen.Kernel2Ideal.Value
public import Idealize.ShloMosaic.Lib.Pipeline.ValueKit
public import proofs.«01_k».proof.Proof.OutCase

@[expose] public section

set_option maxRecDepth 16384

noncomputable section

namespace Cert.Proof.Out

open Cert.Kernel2Ideal Cert.Kernel2Ideal.Gen Idealize.ShloMosaic Idealize.ShloMosaic.TcCoe Idealize.SL.Sem

variable (m : (ℓ : Loc nD τ sig) → Buf (Elt Ideal) ℓ)

/-- The block indices of every window at a point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] := by decide +kernel

/-- A block that does not move is the same at every point. -/
theorem iblk4 (c : Dev nD) (t t' : Fin cfg0.N) : iblk m c 4 t = iblk m c 4 t' := by
  funext i
  blk_ext [iblk, idx t, idx t']
theorem iblk6 (c : Dev nD) (t t' : Fin cfg0.N) : iblk m c 6 t = iblk m c 6 t' := by
  funext i
  blk_ext [iblk, idx t, idx t']

/-- The scratch matrices hold the two weight blocks after every point. -/
theorem held (c : Dev nD) : ∀ (n : ℕ) (hn : n < cfg0.N),
    (outsAt0 m c n hn).2 = (iblk m c 4 ⟨n, hn⟩, iblk m c 6 ⟨n, hn⟩)
  | 0, hn => held_first m c ⟨0, hn⟩ rfl
  | n + 1, hn => by
    have hN : cfg0.N = 16 := N_0
    rw [held_later m c ⟨n + 1, hn⟩ (by show ¬(n + 1) % 16 = 0; omega)]
    show (outsAt0 m c n _).2 = _
    rw [held c n (by omega), iblk4 m c _ ⟨n + 1, hn⟩, iblk6 m c _ ⟨n + 1, hn⟩]

/-- What any point leaves in the output's block. -/
theorem case_any (c : Dev nD) (t : Fin cfg0.N) (p j : Fin 1024) :
    (outsAt0 m c t.val t.isLt).1 (ix2 p j)
      = rowOf (iblk m c 0 t) (iblk m c 1 t) (iblk m c 2 t) (iblk m c 3 t) (iblk m c 4 t)
          (iblk m c 5 t) (iblk m c 6 t) (iblk m c 7 t) p j := by
  by_cases h0 : t.val % 16 = 0
  · exact case_first m c t h0 p j
  · rw [case_later m c t h0, held m c (t.val - 1) (by omega), iblk4 m c _ t, iblk6 m c _ t]

/-- The array's element from the program's arguments. -/
def outAt (c : Dev nD) (r : Fin 16384) (j : Fin 1024) : EReal :=
  normed (resid
      (fun k => m ((c : Thread nD τ).loc main_arg0) (ix3 (⟨r.val / 2048, by omega⟩ : Fin 8) (⟨r.val % 2048, by omega⟩ : Fin 2048) k))
      (fun k => m ((c : Thread nD τ).loc main_arg1) (ix2 r k)) (fun k => m ((c : Thread nD τ).loc main_arg2) (ix2 r k))
      (fun k => m ((c : Thread nD τ).loc main_arg3) (ix2 r k)) (fun l k => m ((c : Thread nD τ).loc main_arg4) (ix3 0 l k))
      (fun k => m ((c : Thread nD τ).loc main_arg5) (ix2 0 k)) (fun k j => m ((c : Thread nD τ).loc main_arg6) (ix3 0 k j)))
    (fun k => m ((c : Thread nD τ).loc main_arg7) (ix1 k)) j

set_option maxHeartbeats 2000000 in
/-- A row of a point's block is the row of the arguments at the point's place. -/
theorem rowOf_iblk (c : Dev nD) (t : Fin cfg0.N) (p j : Fin 1024) (r : Fin 16384) (hr : r.val = t.val * 1024 + p.val) :
    rowOf (iblk m c 0 t) (iblk m c 1 t) (iblk m c 2 t) (iblk m c 3 t) (iblk m c 4 t)
          (iblk m c 5 t) (iblk m c 6 t) (iblk m c 7 t) p j = outAt m c r j := by
  have h0 : ∀ k : Fin 1024, iblk m c 0 t (ix2 p k)
      = m ((c : Thread nD τ).loc main_arg0) (ix3 (⟨r.val / 2048, by omega⟩ : Fin 8) (⟨r.val % 2048, by omega⟩ : Fin 2048) k) := fun k => by
    blk_ext! [iblk, V, idx t]
  have h1 : ∀ k : Fin 512, iblk m c 1 t (ix2 p k) = m ((c : Thread nD τ).loc main_arg1) (ix2 r k) := fun k => by
    blk_ext [iblk, V, idx t]
  have h2 : ∀ k : Fin 512, iblk m c 2 t (ix2 p k) = m ((c : Thread nD τ).loc main_arg2) (ix2 r k) := fun k => by
    blk_ext [iblk, V, idx t]
  have h3 : ∀ k : Fin 512, iblk m c 3 t (ix2 p k) = m ((c : Thread nD τ).loc main_arg3) (ix2 r k) := fun k => by
    blk_ext [iblk, V, idx t]
  have h4 : ∀ l k : Fin 512, iblk m c 4 t (ix2 l k) = m ((c : Thread nD τ).loc main_arg4) (ix3 0 l k) := fun l k => by
    blk_ext! [iblk, V, idx t]
  have h5 : ∀ k : Fin 512, iblk m c 5 t (ix2 0 k) = m ((c : Thread nD τ).loc main_arg5) (ix2 0 k) := fun k => by
    blk_ext! [iblk, V, idx t]
  have h6 : ∀ l k : Fin 1024, iblk m c 6 t (ix2 l k) = m ((c : Thread nD τ).loc main_arg6) (ix3 0 l k) := fun l k => by
    blk_ext! [iblk, V, idx t]
  have h7 : ∀ k : Fin 1024, iblk m c 7 t (ix2 0 k) = m ((c : Thread nD τ).loc main_arg7) (ix1 k) := fun k => by
    blk_ext! [iblk, V, idx t]
  unfold rowOf outAt
  simp only [h0, h1, h2, h3, h4, h5, h6, h7]

/-- The result array after the run. -/
theorem arr (c : Dev nD) : (dats m 0 c).arrAt 8 cfg0.N
    = (fun i => outAt m c (i 0) (i 1) : Buf (Elt Ideal) ((c : Thread nD τ).loc main_v6)) := by
  refine (dats m 0 c).arrAt_eq_of_covers 8 _ (by decide +kernel) fun t hf y => ?_
  blk_simp
  rw [after0_8]
  refine Eq.trans (congrArg _ (eq_ix2 y)) ((case_any m c t (y 0) (y 1)).trans
    ((rowOf_iblk m c t (y 0) (y 1) ((win0_8.blk t).view.emb y 0) ?_).trans (congrArg (outAt m c _) (Fin.ext ?_))))
  · blk_simp [idx t]
  · blk_simp [idx t]

end Cert.Proof.Out

end

end
-- ==== Proof.InRow.lean ====
module

public import Idealize.ShloMosaic.Lib.Pointwise
public import Mathlib.Analysis.SpecialFunctions.Trigonometric.Basic
public import Mathlib.Analysis.SpecialFunctions.Pow.Real
public import proofs.«01_k».proof.Proof.OutRow

@[expose] public section

noncomputable section

namespace Cert.Proof.In

open Idealize.ShloMosaic

/-- The rotation's frequency of lane `d` of a half head. -/
def fr (d : ℕ) : ℝ := 1 / Real.rpow 10000 ((d : ℝ) / 32)

/-- A small natural number read from its 32-bit word. -/
theorem word (n : ℕ) (h : n < 2147483648) : (FloatOps.sitofp FTy.f32 (BitVec.ofNat 32 n) : Ideal .f32) = ((n : ℝ) : EReal) := by
  show (((BitVec.ofNat 32 n).toInt : ℝ) : EReal) = _
  have e : (BitVec.ofNat 32 n).toNat = n := by rw [BitVec.toNat_ofNat]; omega
  rw [BitVec.toInt_eq_toNat_of_lt (by omega), e]
  rfl

theorem c32 : Ideal.ofBits FTy.f32 1107296256#32 = ((32 : ℝ) : EReal) := by
  simp [Ideal.ofBits, Ideal.ieee]; rw [← EReal.coe_mul]; norm_num [zpow_neg]
theorem c64 : Ideal.ofBits FTy.f32 1115684864#32 = ((64 : ℝ) : EReal) := by
  simp [Ideal.ofBits, Ideal.ieee]; rw [← EReal.coe_mul]; norm_num [zpow_neg]
theorem cTheta : Ideal.ofBits FTy.f32 1176256512#32 = ((10000 : ℝ) : EReal) := by
  simp [Ideal.ofBits, Ideal.ieee]; rw [← EReal.coe_mul]; norm_num [zpow_neg]
theorem cNeg : Ideal.ofBits FTy.f32 3212836864#32 = ((-1 : ℝ) : EReal) := by
  simp [Ideal.ofBits, Ideal.ieee]; rw [← EReal.coe_mul]; norm_num [zpow_neg]

/-- The frequency as both programs compute it. -/
theorem freq (d : ℕ) (h : d < 2147483648) :
    Ideal.div 1 (Ideal.pow (Ideal.ofBits FTy.f32 1176256512#32)
      (Ideal.div (FloatOps.sitofp (F := Ideal) FTy.f32 (BitVec.ofNat 32 d)) (Ideal.ofBits FTy.f32 1107296256#32))) = ((fr d : ℝ) : EReal) := by
  have hp : (0 : ℝ) < Real.rpow 10000 ((d : ℝ) / 32) := Real.rpow_pos_of_pos (by norm_num) _
  rw [word d h, c32, cTheta, Ideal.div_coe (by norm_num), ← EReal.coe_mul, Ideal.pow_coe_coe, mul_one_div]
  rw [show (1 : EReal) = ((1 : ℝ) : EReal) from rfl, Ideal.div_coe hp.ne', ← EReal.coe_mul, one_mul]
  rfl

/-- One column of the projection of the normalised row. -/
def proj (x g w : Fin 1024 → EReal) : EReal := ∑ k : Fin 1024, Out.normed x g k * w k

/-- The rotated column `j` at position `p`: halves of a head of 64 lanes turned against one another. -/
def rot (T : Fin 512 → EReal) (p : ℕ) (j : Fin 512) : EReal :=
  if h : j.val % 64 < 32 then
    T j * ((Real.cos (p * fr (j.val % 32)) : ℝ) : EReal) - T ⟨j.val + 32, by omega⟩ * ((Real.sin (p * fr (j.val % 32)) : ℝ) : EReal)
  else
    T j * ((Real.cos (p * fr (j.val % 32)) : ℝ) : EReal) + T ⟨j.val - 32, by omega⟩ * ((Real.sin (p * fr (j.val % 32)) : ℝ) : EReal)

/-- The scale both programs give the queries. -/
abbrev cQ : EReal := Ideal.ofBits FTy.f32 1043900987#32

end Cert.Proof.In

end

end
-- ==== Proof.InRef.lean ====
module

public import proofs.«01_k».proof.Proof.Gen.ReferenceIdeal.Read
public import Idealize.ShloMosaic.Lib.Pointwise
public import proofs.«01_k».proof.Proof.InRow

@[expose] public section

noncomputable section

namespace Cert.Proof.In

open Cert.ReferenceIdeal Cert.ReferenceIdeal.Gen Idealize.ShloMosaic Idealize.SL.Sem

/-- The reference's queries at an index: the projected row, rotated. -/
theorem ref61 (x0 x1 x2) (p : Fin 16384) (j : Fin 512) :
    Read.val_main_v61 (F := Ideal) x0 x1 x2 (ix2 p j)
      = rot (fun j => proj (fun k => x0 (ix3 (⟨p.val / 2048, by omega⟩ : Fin 8) (⟨p.val % 2048, by omega⟩ : Fin 2048) k)) (fun k => x1 (ix2 0 k)) (fun l => x2 (ix3 0 l (⟨0 + j.val, by omega⟩ : Fin 3072)))) (p.val % 2048) j * cQ := by
  have b1 : j.val / 64 * 64 + (32 + j.val % 64) = j.val + 32 := by omega
  have hp : p.val % 2048 < 2147483648 := by omega
  unfold rot proj Out.normed
  pointwise [Read.val_main_v0,Read.val_main_v1,Read.val_main_cst,Read.val_main_v2,Read.val_main_v3,Read.val_main_cst_0,Read.val_main_v4,Read.val_main_v5,Read.val_main_cst_1,Read.val_main_v6,Read.val_main_v7,Read.val_main_v8,Read.val_main_v9,Read.val_main_v10,Read.val_main_v11,Read.val_main_v12,Read.val_main_v13,Read.val_main_v14,Read.val_main_v15,Read.val_main_v16,Read.val_main_v17,Read.val_main_v18,Read.val_main_v19,Read.val_main_v20,Read.val_main_v21,Read.val_main_v22,Read.val_main_v23,Read.val_main_v24,Read.val_main_cst_2,Read.val_main_v25,Read.val_main_v26,Read.val_main_cst_3,Read.val_main_v27,Read.val_main_v28,Read.val_main_cst_4,Read.val_main_v29,Read.val_main_v30,Read.val_main_v31,Read.val_main_v32,Read.val_main_v33,Read.val_main_v34,Read.val_main_v35,Read.val_main_v36,Read.val_main_v37,Read.val_main_v38,Read.val_main_v39,Read.val_main_v40,Read.val_main_v41,Read.val_main_v42,Read.val_main_v43,Read.val_main_v44,Read.val_main_v45,Read.val_main_v46,Read.val_main_v47,Read.val_main_v48,Read.val_main_v49,Read.val_main_v50,Read.val_main_v51,Read.val_main_v52,Read.val_main_v53,Read.val_main_v54,Read.val_main_v55,Read.val_main_v56,Read.val_main_v57,Read.val_main_v58,Read.val_main_cst_5,Read.val_main_v59,Read.val_main_v60,Read.val_main_v61,Read.val_main_v62,Read.val_main_v63,Read.val_main_v64,Read.val_main_cst_6,Read.val_main_v65,Read.val_main_v66,Read.val_main_cst_7,Read.val_main_v67,Read.val_main_v68,Read.val_main_cst_8,Read.val_main_v69,Read.val_main_v70,Read.val_main_v71,Read.val_main_v72,Read.val_main_v73,Read.val_main_v74,Read.val_main_v75,Read.val_main_v76,Read.val_main_v77,Read.val_main_v78,Read.val_main_v79,Read.val_main_v80,Read.val_main_v81,Read.val_main_v82,Read.val_main_v83,Read.val_main_v84,Read.val_main_v85,Read.val_main_v86,Read.val_main_v87,Read.val_main_v88,Read.val_main_v89,Read.val_main_v90,Read.val_main_v91,Read.val_main_v92,Read.val_main_v93,Read.val_main_v94,Read.val_main_v95,Read.val_main_v96,Read.val_main_v97,Read.val_main_v98,Read.val_main_v99,Read.val_main_v100,Read.val_main_v101,Read.val_main_v102,Read.val_main_v103,Read.val_main_v104,Read.val_main_v105,Read.val_main_v106]
  by_cases h : j.val % 64 < 32
  · have b3 : j.val % 32 = j.val % 64 := by omega
    simp only [dif_pos h, freq (j.val % 64) (by omega), word _ hp, b1, b3, ← EReal.coe_mul, Ideal.cos_coe, Ideal.sin_coe]
    try rfl
  · have b3 : j.val % 32 = j.val % 64 - 32 := by omega
    have b2 : 32 + (j.val % 64 - 32) = j.val % 64 := by omega
    have b5 : j.val / 64 * 64 + j.val % 64 = j.val := by omega
    have b4 : j.val / 64 * 64 + (j.val % 64 - 32) = j.val - 32 := by omega
    simp only [dif_neg h, freq (j.val % 64 - 32) (by omega), word _ hp, b2, b3, b4, b5, ← EReal.coe_mul, Ideal.cos_coe, Ideal.sin_coe]
    try rfl

/-- The reference's keys at an index: the projected row, rotated. -/
theorem ref99 (x0 x1 x2) (p : Fin 16384) (j : Fin 512) :
    Read.val_main_v99 (F := Ideal) x0 x1 x2 (ix2 p j)
      = rot (fun j => proj (fun k => x0 (ix3 (⟨p.val / 2048, by omega⟩ : Fin 8) (⟨p.val % 2048, by omega⟩ : Fin 2048) k)) (fun k => x1 (ix2 0 k)) (fun l => x2 (ix3 0 l (⟨512 + j.val, by omega⟩ : Fin 3072)))) (p.val % 2048) j := by
  have b1 : j.val / 64 * 64 + (32 + j.val % 64) = j.val + 32 := by omega
  have hp : p.val % 2048 < 2147483648 := by omega
  unfold rot proj Out.normed
  pointwise [Read.val_main_v0,Read.val_main_v1,Read.val_main_cst,Read.val_main_v2,Read.val_main_v3,Read.val_main_cst_0,Read.val_main_v4,Read.val_main_v5,Read.val_main_cst_1,Read.val_main_v6,Read.val_main_v7,Read.val_main_v8,Read.val_main_v9,Read.val_main_v10,Read.val_main_v11,Read.val_main_v12,Read.val_main_v13,Read.val_main_v14,Read.val_main_v15,Read.val_main_v16,Read.val_main_v17,Read.val_main_v18,Read.val_main_v19,Read.val_main_v20,Read.val_main_v21,Read.val_main_v22,Read.val_main_v23,Read.val_main_v24,Read.val_main_cst_2,Read.val_main_v25,Read.val_main_v26,Read.val_main_cst_3,Read.val_main_v27,Read.val_main_v28,Read.val_main_cst_4,Read.val_main_v29,Read.val_main_v30,Read.val_main_v31,Read.val_main_v32,Read.val_main_v33,Read.val_main_v34,Read.val_main_v35,Read.val_main_v36,Read.val_main_v37,Read.val_main_v38,Read.val_main_v39,Read.val_main_v40,Read.val_main_v41,Read.val_main_v42,Read.val_main_v43,Read.val_main_v44,Read.val_main_v45,Read.val_main_v46,Read.val_main_v47,Read.val_main_v48,Read.val_main_v49,Read.val_main_v50,Read.val_main_v51,Read.val_main_v52,Read.val_main_v53,Read.val_main_v54,Read.val_main_v55,Read.val_main_v56,Read.val_main_v57,Read.val_main_v58,Read.val_main_cst_5,Read.val_main_v59,Read.val_main_v60,Read.val_main_v61,Read.val_main_v62,Read.val_main_v63,Read.val_main_v64,Read.val_main_cst_6,Read.val_main_v65,Read.val_main_v66,Read.val_main_cst_7,Read.val_main_v67,Read.val_main_v68,Read.val_main_cst_8,Read.val_main_v69,Read.val_main_v70,Read.val_main_v71,Read.val_main_v72,Read.val_main_v73,Read.val_main_v74,Read.val_main_v75,Read.val_main_v76,Read.val_main_v77,Read.val_main_v78,Read.val_main_v79,Read.val_main_v80,Read.val_main_v81,Read.val_main_v82,Read.val_main_v83,Read.val_main_v84,Read.val_main_v85,Read.val_main_v86,Read.val_main_v87,Read.val_main_v88,Read.val_main_v89,Read.val_main_v90,Read.val_main_v91,Read.val_main_v92,Read.val_main_v93,Read.val_main_v94,Read.val_main_v95,Read.val_main_v96,Read.val_main_v97,Read.val_main_v98,Read.val_main_v99,Read.val_main_v100,Read.val_main_v101,Read.val_main_v102,Read.val_main_v103,Read.val_main_v104,Read.val_main_v105,Read.val_main_v106]
  by_cases h : j.val % 64 < 32
  · have b3 : j.val % 32 = j.val % 64 := by omega
    simp only [dif_pos h, freq (j.val % 64) (by omega), word _ hp, b1, b3, ← EReal.coe_mul, Ideal.cos_coe, Ideal.sin_coe]
    try rfl
  · have b3 : j.val % 32 = j.val % 64 - 32 := by omega
    have b2 : 32 + (j.val % 64 - 32) = j.val % 64 := by omega
    have b5 : j.val / 64 * 64 + j.val % 64 = j.val := by omega
    have b4 : j.val / 64 * 64 + (j.val % 64 - 32) = j.val - 32 := by omega
    simp only [dif_neg h, freq (j.val % 64 - 32) (by omega), word _ hp, b2, b3, b4, b5, ← EReal.coe_mul, Ideal.cos_coe, Ideal.sin_coe]
    try rfl

/-- The reference's values at an index: the projected row. -/
theorem ref101 (x0 x1 x2) (p : Fin 16384) (j : Fin 512) :
    Read.val_main_v101 (F := Ideal) x0 x1 x2 (ix2 p j)
      = proj (fun k => x0 (ix3 (⟨p.val / 2048, by omega⟩ : Fin 8) (⟨p.val % 2048, by omega⟩ : Fin 2048) k)) (fun k => x1 (ix2 0 k)) (fun l => x2 (ix3 0 l (⟨1024 + j.val, by omega⟩ : Fin 3072))) := by
  unfold proj Out.normed
  pointwise [Read.val_main_v0,Read.val_main_v1,Read.val_main_cst,Read.val_main_v2,Read.val_main_v3,Read.val_main_cst_0,Read.val_main_v4,Read.val_main_v5,Read.val_main_cst_1,Read.val_main_v6,Read.val_main_v7,Read.val_main_v8,Read.val_main_v9,Read.val_main_v10,Read.val_main_v11,Read.val_main_v12,Read.val_main_v13,Read.val_main_v14,Read.val_main_v15,Read.val_main_v16,Read.val_main_v17,Read.val_main_v18,Read.val_main_v19,Read.val_main_v20,Read.val_main_v21,Read.val_main_v22,Read.val_main_v23,Read.val_main_v24,Read.val_main_cst_2,Read.val_main_v25,Read.val_main_v26,Read.val_main_cst_3,Read.val_main_v27,Read.val_main_v28,Read.val_main_cst_4,Read.val_main_v29,Read.val_main_v30,Read.val_main_v31,Read.val_main_v32,Read.val_main_v33,Read.val_main_v34,Read.val_main_v35,Read.val_main_v36,Read.val_main_v37,Read.val_main_v38,Read.val_main_v39,Read.val_main_v40,Read.val_main_v41,Read.val_main_v42,Read.val_main_v43,Read.val_main_v44,Read.val_main_v45,Read.val_main_v46,Read.val_main_v47,Read.val_main_v48,Read.val_main_v49,Read.val_main_v50,Read.val_main_v51,Read.val_main_v52,Read.val_main_v53,Read.val_main_v54,Read.val_main_v55,Read.val_main_v56,Read.val_main_v57,Read.val_main_v58,Read.val_main_cst_5,Read.val_main_v59,Read.val_main_v60,Read.val_main_v61,Read.val_main_v62,Read.val_main_v63,Read.val_main_v64,Read.val_main_cst_6,Read.val_main_v65,Read.val_main_v66,Read.val_main_cst_7,Read.val_main_v67,Read.val_main_v68,Read.val_main_cst_8,Read.val_main_v69,Read.val_main_v70,Read.val_main_v71,Read.val_main_v72,Read.val_main_v73,Read.val_main_v74,Read.val_main_v75,Read.val_main_v76,Read.val_main_v77,Read.val_main_v78,Read.val_main_v79,Read.val_main_v80,Read.val_main_v81,Read.val_main_v82,Read.val_main_v83,Read.val_main_v84,Read.val_main_v85,Read.val_main_v86,Read.val_main_v87,Read.val_main_v88,Read.val_main_v89,Read.val_main_v90,Read.val_main_v91,Read.val_main_v92,Read.val_main_v93,Read.val_main_v94,Read.val_main_v95,Read.val_main_v96,Read.val_main_v97,Read.val_main_v98,Read.val_main_v99,Read.val_main_v100,Read.val_main_v101,Read.val_main_v102,Read.val_main_v103,Read.val_main_v104,Read.val_main_v105,Read.val_main_v106]

/-- The reference's attention gate at an index: the projected row. -/
theorem ref103 (x0 x1 x2) (p : Fin 16384) (j : Fin 512) :
    Read.val_main_v103 (F := Ideal) x0 x1 x2 (ix2 p j)
      = proj (fun k => x0 (ix3 (⟨p.val / 2048, by omega⟩ : Fin 8) (⟨p.val % 2048, by omega⟩ : Fin 2048) k)) (fun k => x1 (ix2 0 k)) (fun l => x2 (ix3 0 l (⟨1536 + j.val, by omega⟩ : Fin 3072))) := by
  unfold proj Out.normed
  pointwise [Read.val_main_v0,Read.val_main_v1,Read.val_main_cst,Read.val_main_v2,Read.val_main_v3,Read.val_main_cst_0,Read.val_main_v4,Read.val_main_v5,Read.val_main_cst_1,Read.val_main_v6,Read.val_main_v7,Read.val_main_v8,Read.val_main_v9,Read.val_main_v10,Read.val_main_v11,Read.val_main_v12,Read.val_main_v13,Read.val_main_v14,Read.val_main_v15,Read.val_main_v16,Read.val_main_v17,Read.val_main_v18,Read.val_main_v19,Read.val_main_v20,Read.val_main_v21,Read.val_main_v22,Read.val_main_v23,Read.val_main_v24,Read.val_main_cst_2,Read.val_main_v25,Read.val_main_v26,Read.val_main_cst_3,Read.val_main_v27,Read.val_main_v28,Read.val_main_cst_4,Read.val_main_v29,Read.val_main_v30,Read.val_main_v31,Read.val_main_v32,Read.val_main_v33,Read.val_main_v34,Read.val_main_v35,Read.val_main_v36,Read.val_main_v37,Read.val_main_v38,Read.val_main_v39,Read.val_main_v40,Read.val_main_v41,Read.val_main_v42,Read.val_main_v43,Read.val_main_v44,Read.val_main_v45,Read.val_main_v46,Read.val_main_v47,Read.val_main_v48,Read.val_main_v49,Read.val_main_v50,Read.val_main_v51,Read.val_main_v52,Read.val_main_v53,Read.val_main_v54,Read.val_main_v55,Read.val_main_v56,Read.val_main_v57,Read.val_main_v58,Read.val_main_cst_5,Read.val_main_v59,Read.val_main_v60,Read.val_main_v61,Read.val_main_v62,Read.val_main_v63,Read.val_main_v64,Read.val_main_cst_6,Read.val_main_v65,Read.val_main_v66,Read.val_main_cst_7,Read.val_main_v67,Read.val_main_v68,Read.val_main_cst_8,Read.val_main_v69,Read.val_main_v70,Read.val_main_v71,Read.val_main_v72,Read.val_main_v73,Read.val_main_v74,Read.val_main_v75,Read.val_main_v76,Read.val_main_v77,Read.val_main_v78,Read.val_main_v79,Read.val_main_v80,Read.val_main_v81,Read.val_main_v82,Read.val_main_v83,Read.val_main_v84,Read.val_main_v85,Read.val_main_v86,Read.val_main_v87,Read.val_main_v88,Read.val_main_v89,Read.val_main_v90,Read.val_main_v91,Read.val_main_v92,Read.val_main_v93,Read.val_main_v94,Read.val_main_v95,Read.val_main_v96,Read.val_main_v97,Read.val_main_v98,Read.val_main_v99,Read.val_main_v100,Read.val_main_v101,Read.val_main_v102,Read.val_main_v103,Read.val_main_v104,Read.val_main_v105,Read.val_main_v106]

/-- The reference's recurrence input at an index: the projected row. -/
theorem ref104 (x0 x1 x2) (p : Fin 16384) (j : Fin 512) :
    Read.val_main_v104 (F := Ideal) x0 x1 x2 (ix2 p j)
      = proj (fun k => x0 (ix3 (⟨p.val / 2048, by omega⟩ : Fin 8) (⟨p.val % 2048, by omega⟩ : Fin 2048) k)) (fun k => x1 (ix2 0 k)) (fun l => x2 (ix3 0 l (⟨2048 + j.val, by omega⟩ : Fin 3072))) := by
  unfold proj Out.normed
  pointwise [Read.val_main_v0,Read.val_main_v1,Read.val_main_cst,Read.val_main_v2,Read.val_main_v3,Read.val_main_cst_0,Read.val_main_v4,Read.val_main_v5,Read.val_main_cst_1,Read.val_main_v6,Read.val_main_v7,Read.val_main_v8,Read.val_main_v9,Read.val_main_v10,Read.val_main_v11,Read.val_main_v12,Read.val_main_v13,Read.val_main_v14,Read.val_main_v15,Read.val_main_v16,Read.val_main_v17,Read.val_main_v18,Read.val_main_v19,Read.val_main_v20,Read.val_main_v21,Read.val_main_v22,Read.val_main_v23,Read.val_main_v24,Read.val_main_cst_2,Read.val_main_v25,Read.val_main_v26,Read.val_main_cst_3,Read.val_main_v27,Read.val_main_v28,Read.val_main_cst_4,Read.val_main_v29,Read.val_main_v30,Read.val_main_v31,Read.val_main_v32,Read.val_main_v33,Read.val_main_v34,Read.val_main_v35,Read.val_main_v36,Read.val_main_v37,Read.val_main_v38,Read.val_main_v39,Read.val_main_v40,Read.val_main_v41,Read.val_main_v42,Read.val_main_v43,Read.val_main_v44,Read.val_main_v45,Read.val_main_v46,Read.val_main_v47,Read.val_main_v48,Read.val_main_v49,Read.val_main_v50,Read.val_main_v51,Read.val_main_v52,Read.val_main_v53,Read.val_main_v54,Read.val_main_v55,Read.val_main_v56,Read.val_main_v57,Read.val_main_v58,Read.val_main_cst_5,Read.val_main_v59,Read.val_main_v60,Read.val_main_v61,Read.val_main_v62,Read.val_main_v63,Read.val_main_v64,Read.val_main_cst_6,Read.val_main_v65,Read.val_main_v66,Read.val_main_cst_7,Read.val_main_v67,Read.val_main_v68,Read.val_main_cst_8,Read.val_main_v69,Read.val_main_v70,Read.val_main_v71,Read.val_main_v72,Read.val_main_v73,Read.val_main_v74,Read.val_main_v75,Read.val_main_v76,Read.val_main_v77,Read.val_main_v78,Read.val_main_v79,Read.val_main_v80,Read.val_main_v81,Read.val_main_v82,Read.val_main_v83,Read.val_main_v84,Read.val_main_v85,Read.val_main_v86,Read.val_main_v87,Read.val_main_v88,Read.val_main_v89,Read.val_main_v90,Read.val_main_v91,Read.val_main_v92,Read.val_main_v93,Read.val_main_v94,Read.val_main_v95,Read.val_main_v96,Read.val_main_v97,Read.val_main_v98,Read.val_main_v99,Read.val_main_v100,Read.val_main_v101,Read.val_main_v102,Read.val_main_v103,Read.val_main_v104,Read.val_main_v105,Read.val_main_v106]

/-- The reference's recurrence gate at an index: the projected row. -/
theorem ref106 (x0 x1 x2) (p : Fin 16384) (j : Fin 512) :
    Read.val_main_v106 (F := Ideal) x0 x1 x2 (ix2 p j)
      = proj (fun k => x0 (ix3 (⟨p.val / 2048, by omega⟩ : Fin 8) (⟨p.val % 2048, by omega⟩ : Fin 2048) k)) (fun k => x1 (ix2 0 k)) (fun l => x2 (ix3 0 l (⟨2560 + j.val, by omega⟩ : Fin 3072))) := by
  unfold proj Out.normed
  pointwise [Read.val_main_v0,Read.val_main_v1,Read.val_main_cst,Read.val_main_v2,Read.val_main_v3,Read.val_main_cst_0,Read.val_main_v4,Read.val_main_v5,Read.val_main_cst_1,Read.val_main_v6,Read.val_main_v7,Read.val_main_v8,Read.val_main_v9,Read.val_main_v10,Read.val_main_v11,Read.val_main_v12,Read.val_main_v13,Read.val_main_v14,Read.val_main_v15,Read.val_main_v16,Read.val_main_v17,Read.val_main_v18,Read.val_main_v19,Read.val_main_v20,Read.val_main_v21,Read.val_main_v22,Read.val_main_v23,Read.val_main_v24,Read.val_main_cst_2,Read.val_main_v25,Read.val_main_v26,Read.val_main_cst_3,Read.val_main_v27,Read.val_main_v28,Read.val_main_cst_4,Read.val_main_v29,Read.val_main_v30,Read.val_main_v31,Read.val_main_v32,Read.val_main_v33,Read.val_main_v34,Read.val_main_v35,Read.val_main_v36,Read.val_main_v37,Read.val_main_v38,Read.val_main_v39,Read.val_main_v40,Read.val_main_v41,Read.val_main_v42,Read.val_main_v43,Read.val_main_v44,Read.val_main_v45,Read.val_main_v46,Read.val_main_v47,Read.val_main_v48,Read.val_main_v49,Read.val_main_v50,Read.val_main_v51,Read.val_main_v52,Read.val_main_v53,Read.val_main_v54,Read.val_main_v55,Read.val_main_v56,Read.val_main_v57,Read.val_main_v58,Read.val_main_cst_5,Read.val_main_v59,Read.val_main_v60,Read.val_main_v61,Read.val_main_v62,Read.val_main_v63,Read.val_main_v64,Read.val_main_cst_6,Read.val_main_v65,Read.val_main_v66,Read.val_main_cst_7,Read.val_main_v67,Read.val_main_v68,Read.val_main_cst_8,Read.val_main_v69,Read.val_main_v70,Read.val_main_v71,Read.val_main_v72,Read.val_main_v73,Read.val_main_v74,Read.val_main_v75,Read.val_main_v76,Read.val_main_v77,Read.val_main_v78,Read.val_main_v79,Read.val_main_v80,Read.val_main_v81,Read.val_main_v82,Read.val_main_v83,Read.val_main_v84,Read.val_main_v85,Read.val_main_v86,Read.val_main_v87,Read.val_main_v88,Read.val_main_v89,Read.val_main_v90,Read.val_main_v91,Read.val_main_v92,Read.val_main_v93,Read.val_main_v94,Read.val_main_v95,Read.val_main_v96,Read.val_main_v97,Read.val_main_v98,Read.val_main_v99,Read.val_main_v100,Read.val_main_v101,Read.val_main_v102,Read.val_main_v103,Read.val_main_v104,Read.val_main_v105,Read.val_main_v106]

end Cert.Proof.In

end

end
-- ==== Proof.InBlock.lean ====
module

public import proofs.«01_k».proof.Proof.Gen.KernelIdeal.Skeleton
public import Idealize.ShloMosaic.Lib.Pointwise
public import proofs.«01_k».proof.Proof.InRow

@[expose] public section

noncomputable section

namespace Cert.Proof.In

open Cert.KernelIdeal Cert.KernelIdeal.Gen Idealize.ShloMosaic Idealize.SL.Sem

/-- The test of a lane being in the upper half of its head. -/
theorem upper : ∀ l : Fin 128, IntOp.cmpi .sge (IntOp.andi (BitVec.ofNat 32 l.val) 63#32) 32#32
    = if l.val % 64 < 32 then 0#1 else 1#1 := by decide +kernel

/-- A column turned against its partner by the block's tables. -/
def turn (T : Fin 512 → EReal) (co si : Fin 128 → EReal) (j : Fin 512) : EReal :=
  T j * co ⟨j.val % 128, by omega⟩
    + (if h : j.val % 64 < 32 then T ⟨j.val + 32, by omega⟩ else T ⟨j.val - 32, by omega⟩) * si ⟨j.val % 128, by omega⟩

/-- A turn by the tables of a position is the rotation at that position. -/
theorem turn_rot (T : Fin 512 → EReal) (co si : Fin 128 → EReal) (p : ℕ) (j : Fin 512)
    (hc : ∀ l, co l = ((Real.cos (p * fr (l.val % 32)) : ℝ) : EReal))
    (hs : ∀ l, si l = (((if l.val % 64 < 32 then -1 else 1) * Real.sin (p * fr (l.val % 32)) : ℝ) : EReal)) :
    turn T co si j = rot T p j := by
  have e1 : j.val % 128 % 32 = j.val % 32 := by omega
  have e2 : j.val % 128 % 64 = j.val % 64 := by omega
  unfold turn rot
  rw [hc, hs]
  simp only [e1, e2]
  by_cases h : j.val % 64 < 32
  · simp only [dif_pos h, if_pos h, neg_one_mul, EReal.coe_neg, mul_neg, sub_eq_add_neg]
  · simp only [dif_neg h, if_neg h, one_mul]

/-- The queries' tile of 128 columns from column 0. -/
theorem q0 (x : Vec Ideal S1024x1024 .f32) (g : Vec Ideal S1x1024 .f32) (co si : Vec Ideal S1024x128 .f32) (w : Vec Ideal S1024x512 .bf16)
    (p : Fin 1024) (l : Fin 128) (j : Fin 512) (hj : j.val = 0 + l.val) :
    k0_pay20 (k0_pay13 co) (k0_pay14 si) k0_pay15 (k0_pay18 x g w) (k0_pay19 x g w) 96#32 (ix2 p l)
      = (turn (fun j => proj (fun k => x (ix2 p k)) (fun k => g (ix2 0 k)) (fun k => w (ix2 k j))) (fun l => co (ix2 p l)) (fun l => si (ix2 p l)) j) * cQ := by
  have c1 : l.val = j.val := by omega
  have c0 : l.val = j.val % 128 := by omega
  have c3 : j.val % 64 = l.val % 64 := by omega
  have hl : l = ⟨j.val % 128, by omega⟩ := Fin.ext c0
  unfold turn proj Out.normed
  rw [← hl]
  pointwise [k0_pay12,k0_pay13,k0_pay14,k0_pay15,k0_pay16,k0_pay17,k0_pay18,k0_pay19,k0_pay20,k0_pay21,k0_pay22,k0_pay23,k0_pay24,k0_pay25,k0_pay26,k0_pay27,k0_pay28]
  by_cases h : j.val % 64 < 32
  · have c2 : (l.val + 128 - 96) % 128 = j.val + 32 := by omega
    have hu := (upper l).trans (if_pos (c3 ▸ h))
    simp only [dif_pos h, hu, c2]
    simp only [c1]
    rfl
  · have c2 : (l.val + 128 - 32) % 128 = j.val - 32 := by omega
    have hu := (upper l).trans (if_neg (c3 ▸ h))
    simp only [dif_neg h, hu, c2]
    simp only [c1]
    rfl

/-- The queries' tile of 128 columns from column 128. -/
theorem q128 (x : Vec Ideal S1024x1024 .f32) (g : Vec Ideal S1x1024 .f32) (co si : Vec Ideal S1024x128 .f32) (w : Vec Ideal S1024x512 .bf16)
    (p : Fin 1024) (l : Fin 128) (j : Fin 512) (hj : j.val = 128 + l.val) :
    k0_pay22 (k0_pay13 co) (k0_pay14 si) k0_pay15 (k0_pay16 x g w) (ix2 p l)
      = (turn (fun j => proj (fun k => x (ix2 p k)) (fun k => g (ix2 0 k)) (fun k => w (ix2 k j))) (fun l => co (ix2 p l)) (fun l => si (ix2 p l)) j) * cQ := by
  have c1 : 128 + l.val = j.val := by omega
  have c0 : l.val = j.val % 128 := by omega
  have c3 : j.val % 64 = l.val % 64 := by omega
  have hl : l = ⟨j.val % 128, by omega⟩ := Fin.ext c0
  unfold turn proj Out.normed
  rw [← hl]
  pointwise [k0_pay12,k0_pay13,k0_pay14,k0_pay15,k0_pay16,k0_pay17,k0_pay18,k0_pay19,k0_pay20,k0_pay21,k0_pay22,k0_pay23,k0_pay24,k0_pay25,k0_pay26,k0_pay27,k0_pay28]
  by_cases h : j.val % 64 < 32
  · have c2 : 128 + (l.val + 128 - 96) % 128 = j.val + 32 := by omega
    have hu := (upper l).trans (if_pos (c3 ▸ h))
    simp only [dif_pos h, hu, c2]
    simp only [c1]
    rfl
  · have c2 : 128 + (l.val + 128 - 32) % 128 = j.val - 32 := by omega
    have hu := (upper l).trans (if_neg (c3 ▸ h))
    simp only [dif_neg h, hu, c2]
    simp only [c1]
    rfl

/-- The queries' tile of 128 columns from column 256. -/
theorem q256 (x : Vec Ideal S1024x1024 .f32) (g : Vec Ideal S1x1024 .f32) (co si : Vec Ideal S1024x128 .f32) (w : Vec Ideal S1024x512 .bf16)
    (p : Fin 1024) (l : Fin 128) (j : Fin 512) (hj : j.val = 256 + l.val) :
    k0_pay25 (k0_pay13 co) (k0_pay14 si) k0_pay15 (k0_pay24 (k0_pay16 x g w)) 32#32 (ix2 p l)
      = (turn (fun j => proj (fun k => x (ix2 p k)) (fun k => g (ix2 0 k)) (fun k => w (ix2 k j))) (fun l => co (ix2 p l)) (fun l => si (ix2 p l)) j) * cQ := by
  have c1 : 256 + l.val = j.val := by omega
  have c0 : l.val = j.val % 128 := by omega
  have c3 : j.val % 64 = l.val % 64 := by omega
  have hl : l = ⟨j.val % 128, by omega⟩ := Fin.ext c0
  unfold turn proj Out.normed
  rw [← hl]
  pointwise [k0_pay12,k0_pay13,k0_pay14,k0_pay15,k0_pay16,k0_pay17,k0_pay18,k0_pay19,k0_pay20,k0_pay21,k0_pay22,k0_pay23,k0_pay24,k0_pay25,k0_pay26,k0_pay27,k0_pay28]
  by_cases h : j.val % 64 < 32
  · have c2 : 256 + (l.val + 128 - 96) % 128 = j.val + 32 := by omega
    have hu := (upper l).trans (if_pos (c3 ▸ h))
    simp only [dif_pos h, hu, c2]
    simp only [c1]
    rfl
  · have c2 : 256 + (l.val + 128 - 32) % 128 = j.val - 32 := by omega
    have hu := (upper l).trans (if_neg (c3 ▸ h))
    simp only [dif_neg h, hu, c2]
    simp only [c1]
    rfl

/-- The queries' tile of 128 columns from column 384. -/
theorem q384 (x : Vec Ideal S1024x1024 .f32) (g : Vec Ideal S1x1024 .f32) (co si : Vec Ideal S1024x128 .f32) (w : Vec Ideal S1024x512 .bf16)
    (p : Fin 1024) (l : Fin 128) (j : Fin 512) (hj : j.val = 384 + l.val) :
    k0_pay27 (k0_pay13 co) (k0_pay14 si) k0_pay15 (k0_pay16 x g w) (ix2 p l)
      = (turn (fun j => proj (fun k => x (ix2 p k)) (fun k => g (ix2 0 k)) (fun k => w (ix2 k j))) (fun l => co (ix2 p l)) (fun l => si (ix2 p l)) j) * cQ := by
  have c1 : 384 + l.val = j.val := by omega
  have c0 : l.val = j.val % 128 := by omega
  have c3 : j.val % 64 = l.val % 64 := by omega
  have hl : l = ⟨j.val % 128, by omega⟩ := Fin.ext c0
  unfold turn proj Out.normed
  rw [← hl]
  pointwise [k0_pay12,k0_pay13,k0_pay14,k0_pay15,k0_pay16,k0_pay17,k0_pay18,k0_pay19,k0_pay20,k0_pay21,k0_pay22,k0_pay23,k0_pay24,k0_pay25,k0_pay26,k0_pay27,k0_pay28]
  by_cases h : j.val % 64 < 32
  · have c2 : 384 + (l.val + 128 - 96) % 128 = j.val + 32 := by omega
    have hu := (upper l).trans (if_pos (c3 ▸ h))
    simp only [dif_pos h, hu, c2]
    simp only [c1]
    rfl
  · have c2 : 384 + (l.val + 128 - 32) % 128 = j.val - 32 := by omega
    have hu := (upper l).trans (if_neg (c3 ▸ h))
    simp only [dif_neg h, hu, c2]
    simp only [c1]
    rfl

/-- The keys' tile of 128 columns from column 0. -/
theorem k0 (x : Vec Ideal S1024x1024 .f32) (g : Vec Ideal S1x1024 .f32) (co si : Vec Ideal S1024x128 .f32) (w : Vec Ideal S1024x512 .bf16)
    (p : Fin 1024) (l : Fin 128) (j : Fin 512) (hj : j.val = 0 + l.val) :
    k0_pay21 (k0_pay13 co) (k0_pay14 si) k0_pay15 (k0_pay17 x g w) (ix2 p l)
      = (turn (fun j => proj (fun k => x (ix2 p k)) (fun k => g (ix2 0 k)) (fun k => w (ix2 k j))) (fun l => co (ix2 p l)) (fun l => si (ix2 p l)) j) := by
  have c1 : l.val = j.val := by omega
  have c0 : l.val = j.val % 128 := by omega
  have c3 : j.val % 64 = l.val % 64 := by omega
  have hl : l = ⟨j.val % 128, by omega⟩ := Fin.ext c0
  unfold turn proj Out.normed
  rw [← hl]
  pointwise [k0_pay12,k0_pay13,k0_pay14,k0_pay15,k0_pay16,k0_pay17,k0_pay18,k0_pay19,k0_pay20,k0_pay21,k0_pay22,k0_pay23,k0_pay24,k0_pay25,k0_pay26,k0_pay27,k0_pay28]
  by_cases h : j.val % 64 < 32
  · have c2 : (l.val + 128 - 96) % 128 = j.val + 32 := by omega
    have hu := (upper l).trans (if_pos (c3 ▸ h))
    simp only [dif_pos h, hu, c2]
    simp only [c1]
    rfl
  · have c2 : (l.val + 128 - 32) % 128 = j.val - 32 := by omega
    have hu := (upper l).trans (if_neg (c3 ▸ h))
    simp only [dif_neg h, hu, c2]
    simp only [c1]
    rfl

/-- The keys' tile of 128 columns from column 128. -/
theorem k128 (x : Vec Ideal S1024x1024 .f32) (g : Vec Ideal S1x1024 .f32) (co si : Vec Ideal S1024x128 .f32) (w : Vec Ideal S1024x512 .bf16)
    (p : Fin 1024) (l : Fin 128) (j : Fin 512) (hj : j.val = 128 + l.val) :
    k0_pay23 (k0_pay13 co) (k0_pay14 si) k0_pay15 (k0_pay17 x g w) (ix2 p l)
      = (turn (fun j => proj (fun k => x (ix2 p k)) (fun k => g (ix2 0 k)) (fun k => w (ix2 k j))) (fun l => co (ix2 p l)) (fun l => si (ix2 p l)) j) := by
  have c1 : 128 + l.val = j.val := by omega
  have c0 : l.val = j.val % 128 := by omega
  have c3 : j.val % 64 = l.val % 64 := by omega
  have hl : l = ⟨j.val % 128, by omega⟩ := Fin.ext c0
  unfold turn proj Out.normed
  rw [← hl]
  pointwise [k0_pay12,k0_pay13,k0_pay14,k0_pay15,k0_pay16,k0_pay17,k0_pay18,k0_pay19,k0_pay20,k0_pay21,k0_pay22,k0_pay23,k0_pay24,k0_pay25,k0_pay26,k0_pay27,k0_pay28]
  by_cases h : j.val % 64 < 32
  · have c2 : 128 + (l.val + 128 - 96) % 128 = j.val + 32 := by omega
    have hu := (upper l).trans (if_pos (c3 ▸ h))
    simp only [dif_pos h, hu, c2]
    simp only [c1]
    rfl
  · have c2 : 128 + (l.val + 128 - 32) % 128 = j.val - 32 := by omega
    have hu := (upper l).trans (if_neg (c3 ▸ h))
    simp only [dif_neg h, hu, c2]
    simp only [c1]
    rfl

/-- The keys' tile of 128 columns from column 256. -/
theorem k256 (x : Vec Ideal S1024x1024 .f32) (g : Vec Ideal S1x1024 .f32) (co si : Vec Ideal S1024x128 .f32) (w : Vec Ideal S1024x512 .bf16)
    (p : Fin 1024) (l : Fin 128) (j : Fin 512) (hj : j.val = 256 + l.val) :
    k0_pay26 (k0_pay13 co) (k0_pay14 si) k0_pay15 (k0_pay17 x g w) (ix2 p l)
      = (turn (fun j => proj (fun k => x (ix2 p k)) (fun k => g (ix2 0 k)) (fun k => w (ix2 k j))) (fun l => co (ix2 p l)) (fun l => si (ix2 p l)) j) := by
  have c1 : 256 + l.val = j.val := by omega
  have c0 : l.val = j.val % 128 := by omega
  have c3 : j.val % 64 = l.val % 64 := by omega
  have hl : l = ⟨j.val % 128, by omega⟩ := Fin.ext c0
  unfold turn proj Out.normed
  rw [← hl]
  pointwise [k0_pay12,k0_pay13,k0_pay14,k0_pay15,k0_pay16,k0_pay17,k0_pay18,k0_pay19,k0_pay20,k0_pay21,k0_pay22,k0_pay23,k0_pay24,k0_pay25,k0_pay26,k0_pay27,k0_pay28]
  by_cases h : j.val % 64 < 32
  · have c2 : 256 + (l.val + 128 - 96) % 128 = j.val + 32 := by omega
    have hu := (upper l).trans (if_pos (c3 ▸ h))
    simp only [dif_pos h, hu, c2]
    simp only [c1]
    rfl
  · have c2 : 256 + (l.val + 128 - 32) % 128 = j.val - 32 := by omega
    have hu := (upper l).trans (if_neg (c3 ▸ h))
    simp only [dif_neg h, hu, c2]
    simp only [c1]
    rfl

/-- The keys' tile of 128 columns from column 384. -/
theorem k384 (x : Vec Ideal S1024x1024 .f32) (g : Vec Ideal S1x1024 .f32) (co si : Vec Ideal S1024x128 .f32) (w : Vec Ideal S1024x512 .bf16)
    (p : Fin 1024) (l : Fin 128) (j : Fin 512) (hj : j.val = 384 + l.val) :
    k0_pay28 (k0_pay13 co) (k0_pay14 si) k0_pay15 (k0_pay17 x g w) (ix2 p l)
      = (turn (fun j => proj (fun k => x (ix2 p k)) (fun k => g (ix2 0 k)) (fun k => w (ix2 k j))) (fun l => co (ix2 p l)) (fun l => si (ix2 p l)) j) := by
  have c1 : 384 + l.val = j.val := by omega
  have c0 : l.val = j.val % 128 := by omega
  have c3 : j.val % 64 = l.val % 64 := by omega
  have hl : l = ⟨j.val % 128, by omega⟩ := Fin.ext c0
  unfold turn proj Out.normed
  rw [← hl]
  pointwise [k0_pay12,k0_pay13,k0_pay14,k0_pay15,k0_pay16,k0_pay17,k0_pay18,k0_pay19,k0_pay20,k0_pay21,k0_pay22,k0_pay23,k0_pay24,k0_pay25,k0_pay26,k0_pay27,k0_pay28]
  by_cases h : j.val % 64 < 32
  · have c2 : 384 + (l.val + 128 - 96) % 128 = j.val + 32 := by omega
    have hu := (upper l).trans (if_pos (c3 ▸ h))
    simp only [dif_pos h, hu, c2]
    simp only [c1]
    rfl
  · have c2 : 384 + (l.val + 128 - 32) % 128 = j.val - 32 := by omega
    have hu := (upper l).trans (if_neg (c3 ▸ h))
    simp only [dif_neg h, hu, c2]
    simp only [c1]
    rfl

/-- The values' columns. -/
theorem plain1 (x : Vec Ideal S1024x1024 .f32) (g : Vec Ideal S1x1024 .f32) (w : Vec Ideal S1024x512 .bf16)
    (p : Fin 1024) (j : Fin 512) :
    k0_pay1 (k0_pay12 x g) w (ix2 p j)
      = proj (fun k => x (ix2 p k)) (fun k => g (ix2 0 k)) (fun k => w (ix2 k j)) := by
  unfold proj Out.normed
  pointwise [k0_pay1, k0_pay12]

/-- The attention gate' columns. -/
theorem plain2 (x : Vec Ideal S1024x1024 .f32) (g : Vec Ideal S1x1024 .f32) (w : Vec Ideal S1024x512 .bf16)
    (p : Fin 1024) (j : Fin 512) :
    k0_pay2 (k0_pay12 x g) w (ix2 p j)
      = proj (fun k => x (ix2 p k)) (fun k => g (ix2 0 k)) (fun k => w (ix2 k j)) := by
  unfold proj Out.normed
  pointwise [k0_pay2, k0_pay12]

/-- The recurrence input' columns. -/
theorem plain3 (x : Vec Ideal S1024x1024 .f32) (g : Vec Ideal S1x1024 .f32) (w : Vec Ideal S1024x512 .bf16)
    (p : Fin 1024) (j : Fin 512) :
    k0_pay3 (k0_pay12 x g) w (ix2 p j)
      = proj (fun k => x (ix2 p k)) (fun k => g (ix2 0 k)) (fun k => w (ix2 k j)) := by
  unfold proj Out.normed
  pointwise [k0_pay3, k0_pay12]

/-- The recurrence gate' columns. -/
theorem plain4 (x : Vec Ideal S1024x1024 .f32) (g : Vec Ideal S1x1024 .f32) (w : Vec Ideal S1024x512 .bf16)
    (p : Fin 1024) (j : Fin 512) :
    k0_pay4 (k0_pay12 x g) w (ix2 p j)
      = proj (fun k => x (ix2 p k)) (fun k => g (ix2 0 k)) (fun k => w (ix2 k j)) := by
  unfold proj Out.normed
  pointwise [k0_pay4, k0_pay12]

end Cert.Proof.In

end

end
-- ==== Proof.InCase.lean ====
module

public import proofs.«01_k».proof.Proof.Gen.KernelIdeal.Frame
public import Idealize.ShloMosaic.Lib.Pipeline.ValueKit
public import Idealize.ShloMosaic.Lib.Pipeline.ReadBack
public import proofs.«01_k».proof.Proof.InBlock

@[expose] public section

set_option maxRecDepth 16384

noncomputable section

namespace Cert.Proof.In

open Cert.KernelIdeal Cert.KernelIdeal.Gen Idealize.ShloMosaic Idealize.SL.Sem

/-- The projections of row `p` on the 512 columns of the weights from column `o`. -/
def cols (x : Vec Ideal S1024x1024 .f32) (g : Vec Ideal S1x1024 .f32) (w : S1024x3072.Idx → EReal) (o : ℕ) (ho : o ≤ 2560)
    (p : Fin 1024) (j : Fin 512) : EReal :=
  proj (fun k => x (ix2 p k)) (fun k => g (ix2 0 k)) (fun k => w (ix2 k (⟨o + j.val, by omega⟩ : Fin 3072)))

/-- A slab of 512 columns of a matrix, at an element. -/
theorem slab (e : EltTy) (w : Vec Ideal S1024x3072 e) (o : ℕ) (ho : o ≤ 2560)
    (h : ∀ a : Fin 2, (![0, o] : Fin 2 → ℕ) a + (![1024, 512] : Fin 2 → ℕ) a ≤ S1024x3072.size a) (k : Fin 1024) (j : Fin 512) :
    View.ld w (Rect.unit (s := S1024x3072) ![0, o] ![1024, 512] h) (ix2 k j) = w (ix2 k (⟨o + j.val, by omega⟩ : Fin 3072)) := by
  refine congrArg w (funext fun d => Fin.ext ?_)
  match d with
  | ⟨0, _⟩ => show 0 + 1 * k.val = k.val; omega
  | ⟨1, _⟩ => show o + 1 * j.val = o + j.val; omega

/-- The projections over a slab are the projections on its columns. -/
theorem slab_cols (x : Vec Ideal S1024x1024 .f32) (g : Vec Ideal S1x1024 .f32) (w : Vec Ideal S1024x3072 .bf16) (o : ℕ) (ho : o ≤ 2560)
    (h : ∀ a : Fin 2, (![0, o] : Fin 2 → ℕ) a + (![1024, 512] : Fin 2 → ℕ) a ≤ S1024x3072.size a) (p : Fin 1024) :
    (fun j => proj (fun k => x (ix2 p k)) (fun k => g (ix2 0 k))
        (fun k => View.ld w (Rect.unit (s := S1024x3072) ![0, o] ![1024, 512] h) (ix2 k j))) = cols x g w o ho p := by
  funext j
  exact congrArg (proj _ _) (funext fun k => slab _ w o ho h k j)

/-- A stored slab is the weights' slab. -/
theorem kept (w : Vec Ideal S1024x3072 .f32) (P : S1024x512.Idx → EReal) (o : ℕ) (ho : o ≤ 2560)
    (h : ∀ a : Fin 2, (![0, o] : Fin 2 → ℕ) a + (![1024, 512] : Fin 2 → ℕ) a ≤ S1024x3072.size a)
    (hP : P = View.ld w (Rect.unit (s := S1024x3072) ![0, o] ![1024, 512] h)) (k : Fin 1024) (j : Fin 3072)
    (x : S1024x512.Idx) (h0 : k.val = (x 0).val) (h1 : j.val = o + (x 1).val) : P x = w (ix2 k j) := by
  obtain ⟨a, b, rfl⟩ : ∃ (a : Fin 1024) (b : Fin 512), x = ix2 a b := ⟨x 0, x 1, eq_ix2 x⟩
  have ha : k = a := Fin.ext h0
  have hj : j = ⟨o + b.val, by omega⟩ := Fin.ext h1
  rw [hP, slab _ w o ho h, ← ha, ← hj]

section
variable (w : Vec Ideal S1024x3072 .f32)

/-- The six slabs the first point stores, in the order of the last first. -/
def stored : List (View.Piece (Elt Ideal) S1024x3072 .bf16) :=
  [⟨Rect.unit (s := S1024x3072) ![0, 2560] ![1024, 512] inb_S1024x3072_S1024x512_0_2560, k0_pay11 (k0_pay10 (View.ld w (Rect.unit (s := S1024x3072) ![0, 2560] ![1024, 512] inb_S1024x3072_S1024x512_0_2560)))⟩,
   ⟨Rect.unit (s := S1024x3072) ![0, 2048] ![1024, 512] inb_S1024x3072_S1024x512_0_2048, k0_pay9 (View.ld w (Rect.unit (s := S1024x3072) ![0, 2048] ![1024, 512] inb_S1024x3072_S1024x512_0_2048))⟩,
   ⟨Rect.unit (s := S1024x3072) ![0, 1536] ![1024, 512] inb_S1024x3072_S1024x512_0_1536, k0_pay8 (View.ld w (Rect.unit (s := S1024x3072) ![0, 1536] ![1024, 512] inb_S1024x3072_S1024x512_0_1536))⟩,
   ⟨Rect.unit (s := S1024x3072) ![0, 1024] ![1024, 512] inb_S1024x3072_S1024x512_0_1024, k0_pay7 (View.ld w (Rect.unit (s := S1024x3072) ![0, 1024] ![1024, 512] inb_S1024x3072_S1024x512_0_1024))⟩,
   ⟨Rect.unit (s := S1024x3072) ![0, 512] ![1024, 512] inb_S1024x3072_S1024x512_0_512, k0_pay6 (View.ld w (Rect.unit (s := S1024x3072) ![0, 512] ![1024, 512] inb_S1024x3072_S1024x512_0_512))⟩,
   ⟨Rect.unit (s := S1024x3072) ![0, 0] ![1024, 512] inb_S1024x3072_S1024x512_0_0, k0_pay5 (View.ld w (Rect.unit (s := S1024x3072) ![0, 0] ![1024, 512] inb_S1024x3072_S1024x512_0_0))⟩]

/-- Together they are the weights. -/
theorem stored_canon : View.canon (stored w) = (w : S1024x3072.Idx → EReal) := by
  funext i
  obtain ⟨k, j, rfl⟩ : ∃ (k : Fin 1024) (j : Fin 3072), i = ix2 k j := ⟨i 0, i 1, eq_ix2 i⟩
  unfold stored
  canon_tiles x h
  · exact kept w _ 2560 (by omega) inb_S1024x3072_S1024x512_0_2560 (by funext i; pointwise [k0_pay5, k0_pay6, k0_pay7, k0_pay8, k0_pay9, k0_pay10, k0_pay11]) k j x h0 h1
  · exact kept w _ 2048 (by omega) inb_S1024x3072_S1024x512_0_2048 (by funext i; pointwise [k0_pay5, k0_pay6, k0_pay7, k0_pay8, k0_pay9, k0_pay10, k0_pay11]) k j x h0 h1
  · exact kept w _ 1536 (by omega) inb_S1024x3072_S1024x512_0_1536 (by funext i; pointwise [k0_pay5, k0_pay6, k0_pay7, k0_pay8, k0_pay9, k0_pay10, k0_pay11]) k j x h0 h1
  · exact kept w _ 1024 (by omega) inb_S1024x3072_S1024x512_0_1024 (by funext i; pointwise [k0_pay5, k0_pay6, k0_pay7, k0_pay8, k0_pay9, k0_pay10, k0_pay11]) k j x h0 h1
  · exact kept w _ 512 (by omega) inb_S1024x3072_S1024x512_0_512 (by funext i; pointwise [k0_pay5, k0_pay6, k0_pay7, k0_pay8, k0_pay9, k0_pay10, k0_pay11]) k j x h0 h1
  · exact kept w _ 0 (by omega) inb_S1024x3072_S1024x512_0_0 (by funext i; pointwise [k0_pay5, k0_pay6, k0_pay7, k0_pay8, k0_pay9, k0_pay10, k0_pay11]) k j x h0 (h1.trans (Nat.zero_add _).symm)

/-- A slab read back after the stores is the weights' slab. -/
theorem stored_read {κ : Kind} {sp : Space} (v : View sig κ sp S1024x3072 .bf16) (o : ℕ)
    (h : ∀ a : Fin 2, (![0, o] : Fin 2 → ℕ) a + (![1024, 512] : Fin 2 → ℕ) a ≤ S1024x3072.size a) :
    v.readCov (stored w) (Rect.unit (s := S1024x3072) ![0, o] ![1024, 512] h).toLoadRect
      = View.ld (show Vec Ideal S1024x3072 .bf16 from w) (Rect.unit (s := S1024x3072) ![0, o] ![1024, 512] h) := by
  rw [View.readCov_eq_canon', stored_canon]
end

variable (m : (ℓ : Loc nD τ sig) → Buf (Elt Ideal) ℓ)

/-- A later point leaves the scratch matrix as it was. -/
theorem held_later (c : Dev nD) (t : Fin cfg0.N) (h0 : ¬t.val % 16 = 0) :
    (outsAt0 m c t.val t.isLt).2.2.2.2.2.2 = (outsAt0 m c (t.val - 1) (by omega)).2.2.2.2.2.2 := by
  rw [outsAt0_B m c t h0]
  unfold sout0_B_0
  rfl

/-- The first point stores the weights into the scratch matrix. -/
theorem held_first (c : Dev nD) (t : Fin cfg0.N) (h0 : t.val % 16 = 0) :
    (outsAt0 m c t.val t.isLt).2.2.2.2.2.2 = (iblk m c 2 t : S1024x3072.Idx → EReal) := by
  rw [outsAt0_A m c t h0]
  funext i
  frame_out
  exact congrFun (stored_canon (iblk m c 2 t)) i

/-- The queries a later point leaves, over the weights the point before left in scratch. -/
theorem later5 (c : Dev nD) (t : Fin cfg0.N) (h0 : ¬t.val % 16 = 0) (p : Fin 1024) (j : Fin 512) :
    (outsAt0 m c t.val t.isLt).1 (ix2 p j)
      = turn (cols (iblk m c 0 t) (iblk m c 1 t) (outsAt0 m c (t.val - 1) (by omega)).2.2.2.2.2.2 0 (by omega) p) (fun l => iblk m c 3 t (ix2 p l)) (fun l => iblk m c 4 t (ix2 p l)) j * cQ := by
  rw [outsAt0_B m c t h0]
  frame_out
  simp only [read_unread_whole]
  generalize (outsAt0 m c (t.val - 1) (by omega)).2.2.2.2.2.2 = w
  rw [← slab_cols (iblk m c 0 t) (iblk m c 1 t) w 0 (by omega) inb_S1024x3072_S1024x512_0_0 p]
  canon_tiles x h
  · obtain ⟨a, b, rfl⟩ : ∃ (a : Fin 1024) (b : Fin 128), x = ix2 a b := ⟨x 0, x 1, eq_ix2 x⟩
    obtain rfl : p = a := Fin.ext h0
    exact q384 (iblk m c 0 t) (iblk m c 1 t) (iblk m c 3 t) (iblk m c 4 t) _ p b j h1
  · obtain ⟨a, b, rfl⟩ : ∃ (a : Fin 1024) (b : Fin 128), x = ix2 a b := ⟨x 0, x 1, eq_ix2 x⟩
    obtain rfl : p = a := Fin.ext h0
    exact q256 (iblk m c 0 t) (iblk m c 1 t) (iblk m c 3 t) (iblk m c 4 t) _ p b j h1
  · obtain ⟨a, b, rfl⟩ : ∃ (a : Fin 1024) (b : Fin 128), x = ix2 a b := ⟨x 0, x 1, eq_ix2 x⟩
    obtain rfl : p = a := Fin.ext h0
    exact q128 (iblk m c 0 t) (iblk m c 1 t) (iblk m c 3 t) (iblk m c 4 t) _ p b j h1
  · obtain ⟨a, b, rfl⟩ : ∃ (a : Fin 1024) (b : Fin 128), x = ix2 a b := ⟨x 0, x 1, eq_ix2 x⟩
    obtain rfl : p = a := Fin.ext h0
    exact q0 (iblk m c 0 t) (iblk m c 1 t) (iblk m c 3 t) (iblk m c 4 t) _ p b j (h1.trans (Nat.zero_add _).symm)

/-- The queries the first point leaves, over the weights it has just stored. -/
theorem first5 (c : Dev nD) (t : Fin cfg0.N) (h0 : t.val % 16 = 0) (p : Fin 1024) (j : Fin 512) :
    (outsAt0 m c t.val t.isLt).1 (ix2 p j)
      = turn (cols (iblk m c 0 t) (iblk m c 1 t) (iblk m c 2 t : S1024x3072.Idx → EReal) 0 (by omega) p) (fun l => iblk m c 3 t (ix2 p l)) (fun l => iblk m c 4 t (ix2 p l)) j * cQ := by
  rw [outsAt0_A m c t h0]
  frame_out
  have e := stored_read (iblk m c 2 t) (View.whole cc0_scratch0) 0 inb_S1024x3072_S1024x512_0_0
  unfold stored at e
  simp only [e]
  generalize hw : (iblk m c 2 t : S1024x3072.Idx → EReal) = w
  rw [← slab_cols (iblk m c 0 t) (iblk m c 1 t) w 0 (by omega) inb_S1024x3072_S1024x512_0_0 p]
  canon_tiles x h
  · obtain ⟨a, b, rfl⟩ : ∃ (a : Fin 1024) (b : Fin 128), x = ix2 a b := ⟨x 0, x 1, eq_ix2 x⟩
    obtain rfl : p = a := Fin.ext h0
    exact q384 (iblk m c 0 t) (iblk m c 1 t) (iblk m c 3 t) (iblk m c 4 t) _ p b j h1
  · obtain ⟨a, b, rfl⟩ : ∃ (a : Fin 1024) (b : Fin 128), x = ix2 a b := ⟨x 0, x 1, eq_ix2 x⟩
    obtain rfl : p = a := Fin.ext h0
    exact q256 (iblk m c 0 t) (iblk m c 1 t) (iblk m c 3 t) (iblk m c 4 t) _ p b j h1
  · obtain ⟨a, b, rfl⟩ : ∃ (a : Fin 1024) (b : Fin 128), x = ix2 a b := ⟨x 0, x 1, eq_ix2 x⟩
    obtain rfl : p = a := Fin.ext h0
    exact q128 (iblk m c 0 t) (iblk m c 1 t) (iblk m c 3 t) (iblk m c 4 t) _ p b j h1
  · obtain ⟨a, b, rfl⟩ : ∃ (a : Fin 1024) (b : Fin 128), x = ix2 a b := ⟨x 0, x 1, eq_ix2 x⟩
    obtain rfl : p = a := Fin.ext h0
    exact q0 (iblk m c 0 t) (iblk m c 1 t) (iblk m c 3 t) (iblk m c 4 t) _ p b j (h1.trans (Nat.zero_add _).symm)

/-- The keys a later point leaves, over the weights the point before left in scratch. -/
theorem later6 (c : Dev nD) (t : Fin cfg0.N) (h0 : ¬t.val % 16 = 0) (p : Fin 1024) (j : Fin 512) :
    (outsAt0 m c t.val t.isLt).2.1 (ix2 p j)
      = turn (cols (iblk m c 0 t) (iblk m c 1 t) (outsAt0 m c (t.val - 1) (by omega)).2.2.2.2.2.2 512 (by omega) p) (fun l => iblk m c 3 t (ix2 p l)) (fun l => iblk m c 4 t (ix2 p l)) j := by
  rw [outsAt0_B m c t h0]
  frame_out
  simp only [read_unread_whole]
  generalize (outsAt0 m c (t.val - 1) (by omega)).2.2.2.2.2.2 = w
  rw [← slab_cols (iblk m c 0 t) (iblk m c 1 t) w 512 (by omega) inb_S1024x3072_S1024x512_0_512 p]
  canon_tiles x h
  · obtain ⟨a, b, rfl⟩ : ∃ (a : Fin 1024) (b : Fin 128), x = ix2 a b := ⟨x 0, x 1, eq_ix2 x⟩
    obtain rfl : p = a := Fin.ext h0
    exact k384 (iblk m c 0 t) (iblk m c 1 t) (iblk m c 3 t) (iblk m c 4 t) _ p b j h1
  · obtain ⟨a, b, rfl⟩ : ∃ (a : Fin 1024) (b : Fin 128), x = ix2 a b := ⟨x 0, x 1, eq_ix2 x⟩
    obtain rfl : p = a := Fin.ext h0
    exact k256 (iblk m c 0 t) (iblk m c 1 t) (iblk m c 3 t) (iblk m c 4 t) _ p b j h1
  · obtain ⟨a, b, rfl⟩ : ∃ (a : Fin 1024) (b : Fin 128), x = ix2 a b := ⟨x 0, x 1, eq_ix2 x⟩
    obtain rfl : p = a := Fin.ext h0
    exact k128 (iblk m c 0 t) (iblk m c 1 t) (iblk m c 3 t) (iblk m c 4 t) _ p b j h1
  · obtain ⟨a, b, rfl⟩ : ∃ (a : Fin 1024) (b : Fin 128), x = ix2 a b := ⟨x 0, x 1, eq_ix2 x⟩
    obtain rfl : p = a := Fin.ext h0
    exact k0 (iblk m c 0 t) (iblk m c 1 t) (iblk m c 3 t) (iblk m c 4 t) _ p b j (h1.trans (Nat.zero_add _).symm)

/-- The keys the first point leaves, over the weights it has just stored. -/
theorem first6 (c : Dev nD) (t : Fin cfg0.N) (h0 : t.val % 16 = 0) (p : Fin 1024) (j : Fin 512) :
    (outsAt0 m c t.val t.isLt).2.1 (ix2 p j)
      = turn (cols (iblk m c 0 t) (iblk m c 1 t) (iblk m c 2 t : S1024x3072.Idx → EReal) 512 (by omega) p) (fun l => iblk m c 3 t (ix2 p l)) (fun l => iblk m c 4 t (ix2 p l)) j := by
  rw [outsAt0_A m c t h0]
  frame_out
  have e := stored_read (iblk m c 2 t) (View.whole cc0_scratch0) 512 inb_S1024x3072_S1024x512_0_512
  unfold stored at e
  simp only [e]
  generalize hw : (iblk m c 2 t : S1024x3072.Idx → EReal) = w
  rw [← slab_cols (iblk m c 0 t) (iblk m c 1 t) w 512 (by omega) inb_S1024x3072_S1024x512_0_512 p]
  canon_tiles x h
  · obtain ⟨a, b, rfl⟩ : ∃ (a : Fin 1024) (b : Fin 128), x = ix2 a b := ⟨x 0, x 1, eq_ix2 x⟩
    obtain rfl : p = a := Fin.ext h0
    exact k384 (iblk m c 0 t) (iblk m c 1 t) (iblk m c 3 t) (iblk m c 4 t) _ p b j h1
  · obtain ⟨a, b, rfl⟩ : ∃ (a : Fin 1024) (b : Fin 128), x = ix2 a b := ⟨x 0, x 1, eq_ix2 x⟩
    obtain rfl : p = a := Fin.ext h0
    exact k256 (iblk m c 0 t) (iblk m c 1 t) (iblk m c 3 t) (iblk m c 4 t) _ p b j h1
  · obtain ⟨a, b, rfl⟩ : ∃ (a : Fin 1024) (b : Fin 128), x = ix2 a b := ⟨x 0, x 1, eq_ix2 x⟩
    obtain rfl : p = a := Fin.ext h0
    exact k128 (iblk m c 0 t) (iblk m c 1 t) (iblk m c 3 t) (iblk m c 4 t) _ p b j h1
  · obtain ⟨a, b, rfl⟩ : ∃ (a : Fin 1024) (b : Fin 128), x = ix2 a b := ⟨x 0, x 1, eq_ix2 x⟩
    obtain rfl : p = a := Fin.ext h0
    exact k0 (iblk m c 0 t) (iblk m c 1 t) (iblk m c 3 t) (iblk m c 4 t) _ p b j (h1.trans (Nat.zero_add _).symm)

/-- The values a later point leaves, over the weights the point before left in scratch. -/
theorem later7 (c : Dev nD) (t : Fin cfg0.N) (h0 : ¬t.val % 16 = 0) (p : Fin 1024) (j : Fin 512) :
    (outsAt0 m c t.val t.isLt).2.2.1 (ix2 p j)
      = cols (iblk m c 0 t) (iblk m c 1 t) (outsAt0 m c (t.val - 1) (by omega)).2.2.2.2.2.2 1024 (by omega) p j := by
  rw [outsAt0_B m c t h0]
  frame_out
  simp only [read_unread_whole]
  generalize (outsAt0 m c (t.val - 1) (by omega)).2.2.2.2.2.2 = w
  rw [← slab_cols (iblk m c 0 t) (iblk m c 1 t) w 1024 (by omega) inb_S1024x3072_S1024x512_0_1024 p]
  exact plain1 (iblk m c 0 t) (iblk m c 1 t) _ p j

/-- The values the first point leaves, over the weights it has just stored. -/
theorem first7 (c : Dev nD) (t : Fin cfg0.N) (h0 : t.val % 16 = 0) (p : Fin 1024) (j : Fin 512) :
    (outsAt0 m c t.val t.isLt).2.2.1 (ix2 p j)
      = cols (iblk m c 0 t) (iblk m c 1 t) (iblk m c 2 t : S1024x3072.Idx → EReal) 1024 (by omega) p j := by
  rw [outsAt0_A m c t h0]
  frame_out
  have e := stored_read (iblk m c 2 t) (View.whole cc0_scratch0) 1024 inb_S1024x3072_S1024x512_0_1024
  unfold stored at e
  simp only [e]
  generalize hw : (iblk m c 2 t : S1024x3072.Idx → EReal) = w
  rw [← slab_cols (iblk m c 0 t) (iblk m c 1 t) w 1024 (by omega) inb_S1024x3072_S1024x512_0_1024 p]
  exact plain1 (iblk m c 0 t) (iblk m c 1 t) _ p j

/-- The attention's gate a later point leaves, over the weights the point before left in scratch. -/
theorem later8 (c : Dev nD) (t : Fin cfg0.N) (h0 : ¬t.val % 16 = 0) (p : Fin 1024) (j : Fin 512) :
    (outsAt0 m c t.val t.isLt).2.2.2.1 (ix2 p j)
      = cols (iblk m c 0 t) (iblk m c 1 t) (outsAt0 m c (t.val - 1) (by omega)).2.2.2.2.2.2 1536 (by omega) p j := by
  rw [outsAt0_B m c t h0]
  frame_out
  simp only [read_unread_whole]
  generalize (outsAt0 m c (t.val - 1) (by omega)).2.2.2.2.2.2 = w
  rw [← slab_cols (iblk m c 0 t) (iblk m c 1 t) w 1536 (by omega) inb_S1024x3072_S1024x512_0_1536 p]
  exact plain2 (iblk m c 0 t) (iblk m c 1 t) _ p j

/-- The attention's gate the first point leaves, over the weights it has just stored. -/
theorem first8 (c : Dev nD) (t : Fin cfg0.N) (h0 : t.val % 16 = 0) (p : Fin 1024) (j : Fin 512) :
    (outsAt0 m c t.val t.isLt).2.2.2.1 (ix2 p j)
      = cols (iblk m c 0 t) (iblk m c 1 t) (iblk m c 2 t : S1024x3072.Idx → EReal) 1536 (by omega) p j := by
  rw [outsAt0_A m c t h0]
  frame_out
  have e := stored_read (iblk m c 2 t) (View.whole cc0_scratch0) 1536 inb_S1024x3072_S1024x512_0_1536
  unfold stored at e
  simp only [e]
  generalize hw : (iblk m c 2 t : S1024x3072.Idx → EReal) = w
  rw [← slab_cols (iblk m c 0 t) (iblk m c 1 t) w 1536 (by omega) inb_S1024x3072_S1024x512_0_1536 p]
  exact plain2 (iblk m c 0 t) (iblk m c 1 t) _ p j

/-- The recurrence's inputs a later point leaves, over the weights the point before left in scratch. -/
theorem later9 (c : Dev nD) (t : Fin cfg0.N) (h0 : ¬t.val % 16 = 0) (p : Fin 1024) (j : Fin 512) :
    (outsAt0 m c t.val t.isLt).2.2.2.2.1 (ix2 p j)
      = cols (iblk m c 0 t) (iblk m c 1 t) (outsAt0 m c (t.val - 1) (by omega)).2.2.2.2.2.2 2048 (by omega) p j := by
  rw [outsAt0_B m c t h0]
  frame_out
  simp only [read_unread_whole]
  generalize (outsAt0 m c (t.val - 1) (by omega)).2.2.2.2.2.2 = w
  rw [← slab_cols (iblk m c 0 t) (iblk m c 1 t) w 2048 (by omega) inb_S1024x3072_S1024x512_0_2048 p]
  exact plain3 (iblk m c 0 t) (iblk m c 1 t) _ p j

/-- The recurrence's inputs the first point leaves, over the weights it has just stored. -/
theorem first9 (c : Dev nD) (t : Fin cfg0.N) (h0 : t.val % 16 = 0) (p : Fin 1024) (j : Fin 512) :
    (outsAt0 m c t.val t.isLt).2.2.2.2.1 (ix2 p j)
      = cols (iblk m c 0 t) (iblk m c 1 t) (iblk m c 2 t : S1024x3072.Idx → EReal) 2048 (by omega) p j := by
  rw [outsAt0_A m c t h0]
  frame_out
  have e := stored_read (iblk m c 2 t) (View.whole cc0_scratch0) 2048 inb_S1024x3072_S1024x512_0_2048
  unfold stored at e
  simp only [e]
  generalize hw : (iblk m c 2 t : S1024x3072.Idx → EReal) = w
  rw [← slab_cols (iblk m c 0 t) (iblk m c 1 t) w 2048 (by omega) inb_S1024x3072_S1024x512_0_2048 p]
  exact plain3 (iblk m c 0 t) (iblk m c 1 t) _ p j

/-- The recurrence's gate a later point leaves, over the weights the point before left in scratch. -/
theorem later10 (c : Dev nD) (t : Fin cfg0.N) (h0 : ¬t.val % 16 = 0) (p : Fin 1024) (j : Fin 512) :
    (outsAt0 m c t.val t.isLt).2.2.2.2.2.1 (ix2 p j)
      = cols (iblk m c 0 t) (iblk m c 1 t) (outsAt0 m c (t.val - 1) (by omega)).2.2.2.2.2.2 2560 (by omega) p j := by
  rw [outsAt0_B m c t h0]
  frame_out
  simp only [read_unread_whole]
  generalize (outsAt0 m c (t.val - 1) (by omega)).2.2.2.2.2.2 = w
  rw [← slab_cols (iblk m c 0 t) (iblk m c 1 t) w 2560 (by omega) inb_S1024x3072_S1024x512_0_2560 p]
  exact plain4 (iblk m c 0 t) (iblk m c 1 t) _ p j

/-- The recurrence's gate the first point leaves, over the weights it has just stored. -/
theorem first10 (c : Dev nD) (t : Fin cfg0.N) (h0 : t.val % 16 = 0) (p : Fin 1024) (j : Fin 512) :
    (outsAt0 m c t.val t.isLt).2.2.2.2.2.1 (ix2 p j)
      = cols (iblk m c 0 t) (iblk m c 1 t) (iblk m c 2 t : S1024x3072.Idx → EReal) 2560 (by omega) p j := by
  rw [outsAt0_A m c t h0]
  frame_out
  have e := stored_read (iblk m c 2 t) (View.whole cc0_scratch0) 2560 inb_S1024x3072_S1024x512_0_2560
  unfold stored at e
  simp only [e]
  generalize hw : (iblk m c 2 t : S1024x3072.Idx → EReal) = w
  rw [← slab_cols (iblk m c 0 t) (iblk m c 1 t) w 2560 (by omega) inb_S1024x3072_S1024x512_0_2560 p]
  exact plain4 (iblk m c 0 t) (iblk m c 1 t) _ p j

end Cert.Proof.In

end

end
-- ==== Proof.InTab.lean ====
module

public import proofs.«01_k».proof.Proof.Gen.KernelIdeal.Value
public import Idealize.ShloMosaic.Lib.Pointwise
public import Idealize.ShloMosaic.Lib.Pipeline.ValueKit
public import Idealize.ShloMosaic.Lib.StableHlo.ReadAt
public import proofs.«01_k».proof.Proof.InRow

@[expose] public section

noncomputable section

namespace Cert.Proof.In

open Cert.KernelIdeal Cert.KernelIdeal.Gen Idealize.ShloMosaic Idealize.ShloMosaic.TcCoe Idealize.SL.Sem
variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![t.val % 2, 0] ∧ win0_4.index t = ![t.val % 2, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0] := by decide +kernel

/-- The word of a lane's remainder, as the host's remainder computes it. -/
theorem rem32 : ∀ l : Fin 128, Scalar.select
    (IntOp.andi (IntOp.cmpi .ne
      (IntOp.cmpi .slt (IntOp.remsi .host (BitVec.ofNat 32 l.val) (Scalar.select (IntOp.cmpi .eq 32#32 0#32) 1#32 32#32)) 0#32)
      (IntOp.cmpi .slt (Scalar.select (IntOp.cmpi .eq 32#32 0#32) 1#32 32#32) 0#32))
      (IntOp.cmpi .ne (IntOp.remsi .host (BitVec.ofNat 32 l.val) (Scalar.select (IntOp.cmpi .eq 32#32 0#32) 1#32 32#32)) 0#32))
    (IntOp.addi (IntOp.remsi .host (BitVec.ofNat 32 l.val) (Scalar.select (IntOp.cmpi .eq 32#32 0#32) 1#32 32#32))
      (Scalar.select (IntOp.cmpi .eq 32#32 0#32) 1#32 32#32))
    (IntOp.remsi .host (BitVec.ofNat 32 l.val) (Scalar.select (IntOp.cmpi .eq 32#32 0#32) 1#32 32#32))
      = BitVec.ofNat 32 (l.val % 32) := by decide +kernel

/-- The sign's test of a lane. -/
theorem rem64 : ∀ l : Fin 128, IntOp.cmpi .sge (Scalar.select
    (IntOp.andi (IntOp.cmpi .ne
      (IntOp.cmpi .slt (IntOp.remsi .host (BitVec.ofNat 32 l.val) (Scalar.select (IntOp.cmpi .eq 64#32 0#32) 1#32 64#32)) 0#32)
      (IntOp.cmpi .slt (Scalar.select (IntOp.cmpi .eq 64#32 0#32) 1#32 64#32) 0#32))
      (IntOp.cmpi .ne (IntOp.remsi .host (BitVec.ofNat 32 l.val) (Scalar.select (IntOp.cmpi .eq 64#32 0#32) 1#32 64#32)) 0#32))
    (IntOp.addi (IntOp.remsi .host (BitVec.ofNat 32 l.val) (Scalar.select (IntOp.cmpi .eq 64#32 0#32) 1#32 64#32))
      (Scalar.select (IntOp.cmpi .eq 64#32 0#32) 1#32 64#32))
    (IntOp.remsi .host (BitVec.ofNat 32 l.val) (Scalar.select (IntOp.cmpi .eq 64#32 0#32) 1#32 64#32))) 32#32
      = if l.val % 64 < 32 then 0#1 else 1#1 := by decide +kernel

/-- A position is its two digits in base 64. -/
theorem digits (i : ℕ) (x : ℝ) : (64 * ((i / 64 : ℕ) : ℝ)) * x + ((i % 64 : ℕ) : ℝ) * x = i * x := by
  have h : ((64 * (i / 64) + i % 64 : ℕ) : ℝ) = (i : ℝ) := congrArg _ (Nat.div_add_mod i 64)
  rw [← h]; push_cast; ring

set_option maxHeartbeats 4000000 in
theorem tab_cos (c : Dev nD) (i : Fin 2048) (l : Fin 128) :
    V m c main_v49 (ix2 i l) = ((Real.cos (i.val * fr (l.val % 32)) : ℝ) : EReal) := by
  unfold V
  after_reads_at
  simp only [id]
  pointwise
  simp only [rem32, freq _ (show l.val % 32 < 2147483648 by omega), word (i.val / 64) (by omega), word (i.val % 64) (by omega), c64]
  simp only [← EReal.coe_mul, Ideal.cos_coe, Ideal.sin_coe, ← EReal.coe_sub]
  rw [← Real.cos_add, digits]

set_option maxHeartbeats 4000000 in
theorem tab_sin (c : Dev nD) (i : Fin 2048) (l : Fin 128) :
    V m c main_v59 (ix2 i l) = (((if l.val % 64 < 32 then -1 else 1) * Real.sin (i.val * fr (l.val % 32)) : ℝ) : EReal) := by
  unfold V
  after_reads_at
  simp only [id]
  pointwise
  simp only [rem32, rem64, freq _ (show l.val % 32 < 2147483648 by omega), word (i.val / 64) (by omega), word (i.val % 64) (by omega), c64]
  have hs : Scalar.select (if l.val % 64 < 32 then 0#1 else 1#1) (1 : EReal) (Ideal.ofBits FTy.f32 3212836864#32)
      = (((if l.val % 64 < 32 then -1 else 1 : ℝ)) : EReal) := by
    rw [cNeg]; split <;> rfl
  rw [hs]
  generalize (if l.val % 64 < 32 then -1 else 1 : ℝ) = s
  simp only [← EReal.coe_mul, Ideal.cos_coe, Ideal.sin_coe, ← EReal.coe_add]
  rw [← digits i.val, Real.sin_add]
  refine congrArg _ ?_
  ring

end Cert.Proof.In

end

end
-- ==== Proof.InValue.lean ====
module

public import proofs.«01_k».proof.Proof.Gen.KernelIdeal.Value
public import Idealize.ShloMosaic.Lib.Pipeline.ValueKit
public import proofs.«01_k».proof.Proof.InCase
public import proofs.«01_k».proof.Proof.InTab

@[expose] public section

set_option maxRecDepth 16384

noncomputable section

namespace Cert.Proof.In

open Cert.KernelIdeal Cert.KernelIdeal.Gen Idealize.ShloMosaic Idealize.ShloMosaic.TcCoe Idealize.SL.Sem

variable (m : (ℓ : Loc nD τ sig) → Buf (Elt Ideal) ℓ)

/-- The host's rows, gain and weights are the program's arguments. -/
theorem host_x (c : Dev nD) (r : Fin 16384) (k : Fin 1024) : V m c main_v60 (ix2 r k)
    = m ((c : Thread nD τ).loc main_arg0) (ix3 (⟨r.val / 2048, by omega⟩ : Fin 8) (⟨r.val % 2048, by omega⟩ : Fin 2048) k) := by
  unfold V
  after_reads_at
theorem host_g (c : Dev nD) (k : Fin 1024) : V m c main_v62 (ix2 0 k) = m ((c : Thread nD τ).loc main_arg1) (ix2 0 k) := by
  unfold V
  after_reads_at
theorem host_w (c : Dev nD) (k : Fin 1024) (l : Fin 3072) : V m c main_v63 (ix2 k l) = m ((c : Thread nD τ).loc main_arg2) (ix3 0 k l) := by
  unfold V
  after_reads_at

/-- The weights' block is the same at every point. -/
theorem blk_w (c : Dev nD) (t : Fin cfg0.N) (k : Fin 1024) (l : Fin 3072) : iblk m c 2 t (ix2 k l) = V m c main_v63 (ix2 k l) := by
  blk_ext! [iblk, idx t]
theorem iblk2 (c : Dev nD) (t t' : Fin cfg0.N) : iblk m c 2 t = iblk m c 2 t' := by
  funext i
  obtain ⟨k, l, rfl⟩ : ∃ (k : Fin 1024) (l : Fin 3072), i = ix2 k l := ⟨i 0, i 1, eq_ix2 i⟩
  exact (blk_w m c t k l).trans (blk_w m c t' k l).symm

/-- The scratch matrix holds the weights after every point. -/
theorem held (c : Dev nD) : ∀ (n : ℕ) (hn : n < cfg0.N),
    (outsAt0 m c n hn).2.2.2.2.2.2 = (iblk m c 2 ⟨n, hn⟩ : S1024x3072.Idx → EReal)
  | 0, hn => held_first m c ⟨0, hn⟩ rfl
  | n + 1, hn => by
    have hN : cfg0.N = 16 := N_0
    rw [held_later m c ⟨n + 1, hn⟩ (by show ¬(n + 1) % 16 = 0; omega)]
    show (outsAt0 m c n _).2.2.2.2.2.2 = _
    rw [held c n (by omega), iblk2 m c _ ⟨n + 1, hn⟩]

/-- The projections of row `r` of the program's argument, on the 512 columns of the weights from column `o`. -/
def colsAt (c : Dev nD) (o : ℕ) (ho : o ≤ 2560) (r : Fin 16384) (j : Fin 512) : EReal :=
  proj (fun k => m ((c : Thread nD τ).loc main_arg0) (ix3 (⟨r.val / 2048, by omega⟩ : Fin 8) (⟨r.val % 2048, by omega⟩ : Fin 2048) k))
    (fun k => m ((c : Thread nD τ).loc main_arg1) (ix2 0 k))
    (fun k => m ((c : Thread nD τ).loc main_arg2) (ix3 0 k (⟨o + j.val, by omega⟩ : Fin 3072)))

set_option maxHeartbeats 2000000 in
/-- The projections on a point's blocks are those of the row at the point's place. -/
theorem cols_iblk (c : Dev nD) (t : Fin cfg0.N) (o : ℕ) (ho : o ≤ 2560) (p : Fin 1024) (r : Fin 16384) (hr : r.val = t.val * 1024 + p.val) :
    cols (iblk m c 0 t) (iblk m c 1 t) (iblk m c 2 t : S1024x3072.Idx → EReal) o ho p = colsAt m c o ho r := by
  have h0 : ∀ k : Fin 1024, iblk m c 0 t (ix2 p k)
      = m ((c : Thread nD τ).loc main_arg0) (ix3 (⟨r.val / 2048, by omega⟩ : Fin 8) (⟨r.val % 2048, by omega⟩ : Fin 2048) k) := fun k => by
    refine Eq.trans ?_ (host_x m c r k)
    blk_ext! [iblk, idx t]
  have h1 : ∀ k : Fin 1024, iblk m c 1 t (ix2 0 k) = m ((c : Thread nD τ).loc main_arg1) (ix2 0 k) := fun k => by
    refine Eq.trans ?_ (host_g m c k)
    blk_ext! [iblk, idx t]
  have h2 : ∀ (k : Fin 1024) (l : Fin 3072), iblk m c 2 t (ix2 k l) = m ((c : Thread nD τ).loc main_arg2) (ix3 0 k l) := fun k l =>
    (blk_w m c t k l).trans (host_w m c k l)
  funext j
  unfold cols colsAt
  simp only [h0, h1, h2]

/-- The cosines' block at a point is the table at the row's position. -/
theorem cos_iblk (c : Dev nD) (t : Fin cfg0.N) (p : Fin 1024) (l : Fin 128) (r : Fin 16384) (hr : r.val = t.val * 1024 + p.val) :
    iblk m c 3 t (ix2 p l) = ((Real.cos ((r.val % 2048 : ℕ) * fr (l.val % 32)) : ℝ) : EReal) := by
  have h : iblk m c 3 t (ix2 p l) = V m c main_v49 (ix2 (⟨r.val % 2048, by omega⟩ : Fin 2048) l) := by
    blk_ext! [iblk, idx t]
  rw [h, tab_cos]

/-- The signed sines' block at a point is the table at the row's position. -/
theorem sin_iblk (c : Dev nD) (t : Fin cfg0.N) (p : Fin 1024) (l : Fin 128) (r : Fin 16384) (hr : r.val = t.val * 1024 + p.val) :
    iblk m c 4 t (ix2 p l) = (((if l.val % 64 < 32 then -1 else 1) * Real.sin ((r.val % 2048 : ℕ) * fr (l.val % 32)) : ℝ) : EReal) := by
  have h : iblk m c 4 t (ix2 p l) = V m c main_v59 (ix2 (⟨r.val % 2048, by omega⟩ : Fin 2048) l) := by
    blk_ext! [iblk, idx t]
  rw [h, tab_sin]

/-- The rotated projections on a point's blocks. -/
theorem turn_iblk (c : Dev nD) (t : Fin cfg0.N) (T : Fin 512 → EReal) (p : Fin 1024) (j : Fin 512) (r : Fin 16384)
    (hr : r.val = t.val * 1024 + p.val) :
    turn T (fun l => iblk m c 3 t (ix2 p l)) (fun l => iblk m c 4 t (ix2 p l)) j = rot T (r.val % 2048) j :=
  turn_rot T _ _ _ j (fun l => cos_iblk m c t p l r hr) fun l => sin_iblk m c t p l r hr

/-- The queries from the program's arguments. -/
def at5 (c : Dev nD) (r : Fin 16384) (j : Fin 512) : EReal :=
  rot (colsAt m c 0 (by omega) r) (r.val % 2048) j * cQ

/-- The queries any point leaves. -/
theorem any5 (c : Dev nD) (t : Fin cfg0.N) (p : Fin 1024) (j : Fin 512) (r : Fin 16384) (hr : r.val = t.val * 1024 + p.val) :
    (outsAt0 m c t.val t.isLt).1 (ix2 p j) = at5 m c r j := by
  have h : (outsAt0 m c t.val t.isLt).1 (ix2 p j) = turn (cols (iblk m c 0 t) (iblk m c 1 t) (iblk m c 2 t : S1024x3072.Idx → EReal) 0 (by omega) p) (fun l => iblk m c 3 t (ix2 p l)) (fun l => iblk m c 4 t (ix2 p l)) j * cQ := by
    by_cases h0 : t.val % 16 = 0
    · exact first5 m c t h0 p j
    · rw [later5 m c t h0, held m c (t.val - 1) (by omega), iblk2 m c _ t]
  rw [h]
  unfold at5
  rw [turn_iblk m c t _ p j r hr, cols_iblk m c t 0 (by omega) p r hr]

/-- The queries after the run. -/
theorem arr5 (c : Dev nD) : (dats m 0 c).arrAt 5 cfg0.N
    = (fun i => at5 m c (i 0) (i 1) : Buf (Elt Ideal) ((c : Thread nD τ).loc main_v64_0)) := by
  refine (dats m 0 c).arrAt_eq_of_covers 5 _ (by decide +kernel) fun t hf y => ?_
  blk_simp
  rw [after0_5]
  refine Eq.trans (congrArg _ (eq_ix2 y)) ((any5 m c t (y 0) (y 1) ((win0_5.blk t).view.emb y 0) ?_).trans (congrArg (at5 m c _) (Fin.ext ?_)))
  · blk_simp [idx t]
  · blk_simp [idx t]

/-- The keys from the program's arguments. -/
def at6 (c : Dev nD) (r : Fin 16384) (j : Fin 512) : EReal :=
  rot (colsAt m c 512 (by omega) r) (r.val % 2048) j

/-- The keys any point leaves. -/
theorem any6 (c : Dev nD) (t : Fin cfg0.N) (p : Fin 1024) (j : Fin 512) (r : Fin 16384) (hr : r.val = t.val * 1024 + p.val) :
    (outsAt0 m c t.val t.isLt).2.1 (ix2 p j) = at6 m c r j := by
  have h : (outsAt0 m c t.val t.isLt).2.1 (ix2 p j) = turn (cols (iblk m c 0 t) (iblk m c 1 t) (iblk m c 2 t : S1024x3072.Idx → EReal) 512 (by omega) p) (fun l => iblk m c 3 t (ix2 p l)) (fun l => iblk m c 4 t (ix2 p l)) j := by
    by_cases h0 : t.val % 16 = 0
    · exact first6 m c t h0 p j
    · rw [later6 m c t h0, held m c (t.val - 1) (by omega), iblk2 m c _ t]
  rw [h]
  unfold at6
  rw [turn_iblk m c t _ p j r hr, cols_iblk m c t 512 (by omega) p r hr]

/-- The keys after the run. -/
theorem arr6 (c : Dev nD) : (dats m 0 c).arrAt 6 cfg0.N
    = (fun i => at6 m c (i 0) (i 1) : Buf (Elt Ideal) ((c : Thread nD τ).loc main_v64_1)) := by
  refine (dats m 0 c).arrAt_eq_of_covers 6 _ (by decide +kernel) fun t hf y => ?_
  blk_simp
  rw [after0_6]
  refine Eq.trans (congrArg _ (eq_ix2 y)) ((any6 m c t (y 0) (y 1) ((win0_6.blk t).view.emb y 0) ?_).trans (congrArg (at6 m c _) (Fin.ext ?_)))
  · blk_simp [idx t]
  · blk_simp [idx t]

/-- The values from the program's arguments. -/
def at7 (c : Dev nD) (r : Fin 16384) (j : Fin 512) : EReal :=
  colsAt m c 1024 (by omega) r j

/-- The values any point leaves. -/
theorem any7 (c : Dev nD) (t : Fin cfg0.N) (p : Fin 1024) (j : Fin 512) (r : Fin 16384) (hr : r.val = t.val * 1024 + p.val) :
    (outsAt0 m c t.val t.isLt).2.2.1 (ix2 p j) = at7 m c r j := by
  have h : (outsAt0 m c t.val t.isLt).2.2.1 (ix2 p j) = cols (iblk m c 0 t) (iblk m c 1 t) (iblk m c 2 t : S1024x3072.Idx → EReal) 1024 (by omega) p j := by
    by_cases h0 : t.val % 16 = 0
    · exact first7 m c t h0 p j
    · rw [later7 m c t h0, held m c (t.val - 1) (by omega), iblk2 m c _ t]
  rw [h]
  unfold at7
  rw [cols_iblk m c t 1024 (by omega) p r hr]

/-- The values after the run. -/
theorem arr7 (c : Dev nD) : (dats m 0 c).arrAt 7 cfg0.N
    = (fun i => at7 m c (i 0) (i 1) : Buf (Elt Ideal) ((c : Thread nD τ).loc main_v64_2)) := by
  refine (dats m 0 c).arrAt_eq_of_covers 7 _ (by decide +kernel) fun t hf y => ?_
  blk_simp
  rw [after0_7]
  refine Eq.trans (congrArg _ (eq_ix2 y)) ((any7 m c t (y 0) (y 1) ((win0_7.blk t).view.emb y 0) ?_).trans (congrArg (at7 m c _) (Fin.ext ?_)))
  · blk_simp [idx t]
  · blk_simp [idx t]

/-- The attention's gate from the program's arguments. -/
def at8 (c : Dev nD) (r : Fin 16384) (j : Fin 512) : EReal :=
  colsAt m c 1536 (by omega) r j

/-- The attention's gate any point leaves. -/
theorem any8 (c : Dev nD) (t : Fin cfg0.N) (p : Fin 1024) (j : Fin 512) (r : Fin 16384) (hr : r.val = t.val * 1024 + p.val) :
    (outsAt0 m c t.val t.isLt).2.2.2.1 (ix2 p j) = at8 m c r j := by
  have h : (outsAt0 m c t.val t.isLt).2.2.2.1 (ix2 p j) = cols (iblk m c 0 t) (iblk m c 1 t) (iblk m c 2 t : S1024x3072.Idx → EReal) 1536 (by omega) p j := by
    by_cases h0 : t.val % 16 = 0
    · exact first8 m c t h0 p j
    · rw [later8 m c t h0, held m c (t.val - 1) (by omega), iblk2 m c _ t]
  rw [h]
  unfold at8
  rw [cols_iblk m c t 1536 (by omega) p r hr]

/-- The attention's gate after the run. -/
theorem arr8 (c : Dev nD) : (dats m 0 c).arrAt 8 cfg0.N
    = (fun i => at8 m c (i 0) (i 1) : Buf (Elt Ideal) ((c : Thread nD τ).loc main_v64_3)) := by
  refine (dats m 0 c).arrAt_eq_of_covers 8 _ (by decide +kernel) fun t hf y => ?_
  blk_simp
  rw [after0_8]
  refine Eq.trans (congrArg _ (eq_ix2 y)) ((any8 m c t (y 0) (y 1) ((win0_8.blk t).view.emb y 0) ?_).trans (congrArg (at8 m c _) (Fin.ext ?_)))
  · blk_simp [idx t]
  · blk_simp [idx t]

/-- The recurrence's inputs from the program's arguments. -/
def at9 (c : Dev nD) (r : Fin 16384) (j : Fin 512) : EReal :=
  colsAt m c 2048 (by omega) r j

/-- The recurrence's inputs any point leaves. -/
theorem any9 (c : Dev nD) (t : Fin cfg0.N) (p : Fin 1024) (j : Fin 512) (r : Fin 16384) (hr : r.val = t.val * 1024 + p.val) :
    (outsAt0 m c t.val t.isLt).2.2.2.2.1 (ix2 p j) = at9 m c r j := by
  have h : (outsAt0 m c t.val t.isLt).2.2.2.2.1 (ix2 p j) = cols (iblk m c 0 t) (iblk m c 1 t) (iblk m c 2 t : S1024x3072.Idx → EReal) 2048 (by omega) p j := by
    by_cases h0 : t.val % 16 = 0
    · exact first9 m c t h0 p j
    · rw [later9 m c t h0, held m c (t.val - 1) (by omega), iblk2 m c _ t]
  rw [h]
  unfold at9
  rw [cols_iblk m c t 2048 (by omega) p r hr]

/-- The recurrence's inputs after the run. -/
theorem arr9 (c : Dev nD) : (dats m 0 c).arrAt 9 cfg0.N
    = (fun i => at9 m c (i 0) (i 1) : Buf (Elt Ideal) ((c : Thread nD τ).loc main_v64_4)) := by
  refine (dats m 0 c).arrAt_eq_of_covers 9 _ (by decide +kernel) fun t hf y => ?_
  blk_simp
  rw [after0_9]
  refine Eq.trans (congrArg _ (eq_ix2 y)) ((any9 m c t (y 0) (y 1) ((win0_9.blk t).view.emb y 0) ?_).trans (congrArg (at9 m c _) (Fin.ext ?_)))
  · blk_simp [idx t]
  · blk_simp [idx t]

/-- The recurrence's gate from the program's arguments. -/
def at10 (c : Dev nD) (r : Fin 16384) (j : Fin 512) : EReal :=
  colsAt m c 2560 (by omega) r j

/-- The recurrence's gate any point leaves. -/
theorem any10 (c : Dev nD) (t : Fin cfg0.N) (p : Fin 1024) (j : Fin 512) (r : Fin 16384) (hr : r.val = t.val * 1024 + p.val) :
    (outsAt0 m c t.val t.isLt).2.2.2.2.2.1 (ix2 p j) = at10 m c r j := by
  have h : (outsAt0 m c t.val t.isLt).2.2.2.2.2.1 (ix2 p j) = cols (iblk m c 0 t) (iblk m c 1 t) (iblk m c 2 t : S1024x3072.Idx → EReal) 2560 (by omega) p j := by
    by_cases h0 : t.val % 16 = 0
    · exact first10 m c t h0 p j
    · rw [later10 m c t h0, held m c (t.val - 1) (by omega), iblk2 m c _ t]
  rw [h]
  unfold at10
  rw [cols_iblk m c t 2560 (by omega) p r hr]

/-- The recurrence's gate after the run. -/
theorem arr10 (c : Dev nD) : (dats m 0 c).arrAt 10 cfg0.N
    = (fun i => at10 m c (i 0) (i 1) : Buf (Elt Ideal) ((c : Thread nD τ).loc main_v64_5)) := by
  refine (dats m 0 c).arrAt_eq_of_covers 10 _ (by decide +kernel) fun t hf y => ?_
  blk_simp
  rw [after0_10]
  refine Eq.trans (congrArg _ (eq_ix2 y)) ((any10 m c t (y 0) (y 1) ((win0_10.blk t).view.emb y 0) ?_).trans (congrArg (at10 m c _) (Fin.ext ?_)))
  · blk_simp [idx t]
  · blk_simp [idx t]

end Cert.Proof.In

end

end
-- ==== Proof.lean ====
module

public import proofs.«01_k».proof.Proof.MobaFrame
public import proofs.«01_k».proof.Proof.MobaFrameIdeal
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.Reference2Ideal.Run
public import proofs.«01_k».proof.Proof.Gen.ReferenceIdeal.Read
public import proofs.«01_k».proof.Proof.Gen.Reference2Ideal.Read
public import proofs.«01_k».proof.Proof.OutRef
public import proofs.«01_k».proof.Proof.OutValue
public import proofs.«01_k».proof.Proof.InRef
public import proofs.«01_k».proof.Proof.InValue
public import Idealize.ShloMosaic.Adequacy
public import Idealize.ShloMosaic.Init

@[expose] public section

noncomputable section

namespace Cert.Proof

open Idealize.ShloMosaic Idealize.SL.Sem Cert.Kernel

set_option maxHeartbeats 4000000 in
/-- The input projections and the rotation: the launch's six arrays are the reference's. -/
theorem inputs : algebraic_KernelIdeal_ReferenceIdeal (hKernelIdeal := Cert.KernelIdeal.Gen.facts) (hReferenceIdeal := Cert.ReferenceIdeal.Gen.facts) := by
  intro m g m' g' _ hagree
  refine ⟨fun c i => In.at5 m c (i 0) (i 1), fun c i => In.at6 m c (i 0) (i 1), fun c i => In.at7 m c (i 0) (i 1),
    fun c i => In.at8 m c (i 0) (i 1), fun c i => In.at9 m c (i 0) (i 1), fun c i => In.at10 m c (i 0) (i 1), ?_, ?_⟩
  · refine (θ_run _ _ _).mono (fun r h c => ?_) (Cert.KernelIdeal.Value.run_blocks m g)
    obtain ⟨h0, h1, h2, h3, h4, h5, ha⟩ := h c
    exact ⟨h0.trans (In.arr5 m c), h1.trans (In.arr6 m c), h2.trans (In.arr7 m c), h3.trans (In.arr8 m c),
      h4.trans (In.arr9 m c), h5.trans (In.arr10 m c), ha⟩
  · refine (θ_run _ _ _).mono (fun r h c => ?_) (Cert.ReferenceIdeal.Value.run m' g')
    obtain ⟨h0, h1, h2, h3, h4, h5, ha⟩ := h c
    obtain ⟨e0, e1, e2⟩ := hagree c
    refine ⟨?_, ?_, ?_, ?_, ?_, ?_, ha⟩
    · rw [h0, Cert.ReferenceIdeal.Read.val_main_v61_eq]
      funext i
      refine (congrArg _ (eq_ix2 i)).trans ((In.ref61 _ _ _ (i 0) (i 1)).trans ?_)
      rw [e0, e1, e2]
      rfl
    · rw [h1, Cert.ReferenceIdeal.Read.val_main_v99_eq]
      funext i
      refine (congrArg _ (eq_ix2 i)).trans ((In.ref99 _ _ _ (i 0) (i 1)).trans ?_)
      rw [e0, e1, e2]
      rfl
    · rw [h2, Cert.ReferenceIdeal.Read.val_main_v101_eq]
      funext i
      refine (congrArg _ (eq_ix2 i)).trans ((In.ref101 _ _ _ (i 0) (i 1)).trans ?_)
      rw [e0, e1, e2]
      rfl
    · rw [h3, Cert.ReferenceIdeal.Read.val_main_v103_eq]
      funext i
      refine (congrArg _ (eq_ix2 i)).trans ((In.ref103 _ _ _ (i 0) (i 1)).trans ?_)
      rw [e0, e1, e2]
      rfl
    · rw [h4, Cert.ReferenceIdeal.Read.val_main_v104_eq]
      funext i
      refine (congrArg _ (eq_ix2 i)).trans ((In.ref104 _ _ _ (i 0) (i 1)).trans ?_)
      rw [e0, e1, e2]
      rfl
    · rw [h5, Cert.ReferenceIdeal.Read.val_main_v106_eq]
      funext i
      refine (congrArg _ (eq_ix2 i)).trans ((In.ref106 _ _ _ (i 0) (i 1)).trans ?_)
      rw [e0, e1, e2]
      rfl

/-- The gated unit, the output projection, the residual and the last norm: the launch's array is the reference's. -/
theorem outputs : algebraic_Kernel2Ideal_Reference2Ideal (hKernel2Ideal := Cert.Kernel2Ideal.Gen.facts) (hReference2Ideal := Cert.Reference2Ideal.Gen.facts) := by
  intro m g m' g' _ hagree
  refine ⟨fun c i => Out.outAt m c (i 0) (i 1), ?_, ?_⟩
  · refine (θ_run _ _ _).mono (fun r h c => ?_) (Cert.Kernel2Ideal.Value.run_blocks m g)
    obtain ⟨h0, ha⟩ := h c
    exact ⟨h0.trans (Out.arr m c), ha⟩
  · refine (θ_run _ _ _).mono (fun r h c => ?_) (Cert.Reference2Ideal.Value.run m' g')
    obtain ⟨h0, ha⟩ := h c
    obtain ⟨e0, e1, e2, e3, e4, e5, e6, e7⟩ := hagree c
    refine ⟨h0.trans ?_, ha⟩
    rw [Cert.Reference2Ideal.Read.val_main_v50_eq]
    funext i
    refine (congrArg _ (eq_ix2 i)).trans ((Out.ref_apply _ _ _ _ _ _ _ _ (i 0) (i 1)).trans ?_)
    rw [e0, e1, e2, e3, e4, e5, e6, e7]
    rfl

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts,
    fun m ρ _ => Cert.Kernel.Gen.frame m ρ, fun m ρ _ => Cert.KernelIdeal.Gen.frame m ρ, fun m ρ _ => (θ_run _ _ _).mono (fun r h => ⟨fun c => (h c).2.2.2.2.2.2, sem_eq_zero_of_no_sems (by decide) r.2⟩) (Cert.ReferenceIdeal.Value.run m ρ),
    fun m ρ _ => Cert.Kernel2.Gen.frame m ρ, fun m ρ _ => Cert.Kernel2Ideal.Gen.frame m ρ, fun m ρ _ => (θ_run _ _ _).mono (fun r h => ⟨fun c => (h c).2, sem_eq_zero_of_no_sems (by decide) r.2⟩) (Cert.Reference2Ideal.Value.run m ρ),
    fun m ρ _ => Cert.Kernel3.Gen.frame m ρ, fun m ρ _ => Cert.Kernel3Ideal.Gen.frame m ρ,
    trivial, inputs, trivial, outputs, IdealRules.named_const.statement _ _ _ _ _ rfl⟩

end Cert.Proof

end
